-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S128 : Shape := ⟨1, ![128]⟩
abbrev S1 : Shape := ⟨1, ![1]⟩
abbrev S10000x128 : Shape := ⟨2, ![10000, 128]⟩
abbrev S10000x10000 : Shape := ⟨2, ![10000, 10000]⟩
abbrev S1x128 : Shape := ⟨2, ![1, 128]⟩
abbrev S200x10000 : Shape := ⟨2, ![200, 10000]⟩
abbrev S10000x512 : Shape := ⟨2, ![10000, 512]⟩
abbrev S400x10000 : Shape := ⟨2, ![400, 10000]⟩
abbrev S400x512 : Shape := ⟨2, ![400, 512]⟩
abbrev S400x128 : Shape := ⟨2, ![400, 128]⟩
abbrev S1x1x10000 : Shape := ⟨3, ![1, 1, 10000]⟩
abbrev S1x1x1 : Shape := ⟨3, ![1, 1, 1]⟩
abbrev S1x20000 : Shape := ⟨2, ![1, 20000]⟩

abbrev nBuf : Space → Nat
  | .hbm => 34
  | .vmem => 19
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S_, .i32⟩
  | .hbm, ⟨5, _⟩ => ⟨S1x10000, .f32⟩
  | .hbm, ⟨6, _⟩ => ⟨S1x10000, .f32⟩
  | .hbm, ⟨7, _⟩ => ⟨S1x10000, .f32⟩
  | .hbm, ⟨8, _⟩ => ⟨S128x128, .f32⟩
  | .hbm, ⟨9, _⟩ => ⟨S128, .f32⟩
  | .hbm, ⟨10, _⟩ => ⟨S_, .f32⟩
  | .hbm, ⟨11, _⟩ => ⟨S128x128, .f32⟩
  | .hbm, ⟨12, _⟩ => ⟨S128, .f32⟩
  | .hbm, ⟨13, _⟩ => ⟨S_, .f32⟩
  | .hbm, ⟨14, _⟩ => ⟨S128x128, .f32⟩
  | .hbm, ⟨15, _⟩ => ⟨S1, .f32⟩
  | .hbm, ⟨16, _⟩ => ⟨S10000x128, .f32⟩
  | .hbm, ⟨17, _⟩ => ⟨S10000x128, .f32⟩
  | .hbm, ⟨18, _⟩ => ⟨S10000x10000, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x10000, .f32⟩
  | .hbm, ⟨24, _⟩ => ⟨S1x10000, .f32⟩
  | .hbm, ⟨25, _⟩ => ⟨S1x10000, .f32⟩
  | .hbm, ⟨26, _⟩ => ⟨S_, .f32⟩
  | .hbm, ⟨27, _⟩ => ⟨S1x10000, .f32⟩
  | .hbm, ⟨28, _⟩ => ⟨S1x10000, .f32⟩
  | .hbm, ⟨29, _⟩ => ⟨S1x10000, .f32⟩
  | .hbm, ⟨30, _⟩ => ⟨S_, .f32⟩
  | .hbm, ⟨31, _⟩ => ⟨S1x10000, .f32⟩
  | .hbm, ⟨32, _⟩ => ⟨S1x10000, .f32⟩
  | .hbm, ⟨33, _⟩ => ⟨S1x20000, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S200x10000, .f32⟩
  | .local _ .vmem, ⟨7, _⟩ => ⟨S200x10000, .f32⟩
  | .local _ .vmem, ⟨8, _⟩ => ⟨S200x10000, .f32⟩
  | .local _ .vmem, ⟨9, _⟩ => ⟨S200x10000, .f32⟩
  | .local _ .vmem, ⟨10, _⟩ => ⟨S1x128, .f32⟩
  | .local _ .vmem, ⟨11, _⟩ => ⟨S1x128, .f32⟩
  | .local _ .vmem, ⟨12, _⟩ => ⟨S1x10000, .f32⟩
  | .local _ .vmem, ⟨13, _⟩ => ⟨S128x128, .f32⟩
  | .local _ .vmem, ⟨14, _⟩ => ⟨S1x10000, .f32⟩
  | .local _ .vmem, ⟨15, _⟩ => ⟨S1x10000, .f32⟩
  | .local _ .vmem, ⟨16, _⟩ => ⟨S10000x512, .bf16⟩
  | .local _ .vmem, ⟨17, _⟩ => ⟨S10000x128, .bf16⟩
  | .local _ .vmem, ⟨18, _⟩ => ⟨S10000x128, .bf16⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c10000_i32 : BitVec 32 := 10000#32
  let v17 : BitVec 32 := Scalar.muli arg0 c10000_i32
  let v24 : Index := Scalar.indexCast v17
  let c0_13 : Index := 0#32
  ![v24.toNat, 0]
def k0_off2 (i : grid0.Coords) : Fin 2 → Nat :=
  let arg0 : BitVec 32 := BitVec.ofNat 32 (i 0).val
  let c10000_i32 : BitVec 32 := 10000#32
  let v17 : BitVec 32 := Scalar.muli arg0 c10000_i32
  let v34 : Index := Scalar.indexCast v17
  let c128 : Index := 128#32
  ![v34.toNat, 128]
def k0_off3 (i : grid0.Coords) : Fin 2 → Nat :=
  let arg0 : BitVec 32 := BitVec.ofNat 32 (i 0).val
  let c10000_i32 : BitVec 32 := 10000#32
  let v17 : BitVec 32 := Scalar.muli arg0 c10000_i32
  let v44 : Index := Scalar.indexCast v17
  let c256 : Index := 256#32
  ![v44.toNat, 256]
def k0_off4 (i : grid0.Coords) : Fin 2 → Nat :=
  let arg0 : BitVec 32 := BitVec.ofNat 32 (i 0).val
  let c10000_i32 : BitVec 32 := 10000#32
  let v17 : BitVec 32 := Scalar.muli arg0 c10000_i32
  let v54 : Index := Scalar.indexCast v17
  let c384 : Index := 384#32
  ![v54.toNat, 384]
def k0_cond2 (i : grid0.Coords) : BitVec 1 :=
  let arg0 : BitVec 32 := BitVec.ofNat 32 (i 0).val
  let c1_i32_0 : BitVec 32 := 1#32
  let v3 : BitVec 1 := Scalar.cmpi .sge arg0 c1_i32_0
  let c26_i32 : BitVec 32 := 26#32
  let v4 : BitVec 1 := Scalar.cmpi .slt arg0 c26_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off5 (i : grid0.Coords) : Fin 2 → Nat :=
  let arg0 : BitVec 32 := BitVec.ofNat 32 (i 0).val
  let c1_i32_19 : BitVec 32 := 1#32
  let v53 : BitVec 32 := Scalar.subi arg0 c1_i32_19
  let c400_i32 : BitVec 32 := 400#32
  let v54 : BitVec 32 := Scalar.muli v53 c400_i32
  let v56 : Index := Scalar.indexCast v54
  let c0_20 : Index := 0#32
  ![v56.toNat, 0]
def k0_cond3 (i : grid0.Coords) : BitVec 1 :=
  let arg0 : BitVec 32 := BitVec.ofNat 32 (i 0).val
  let c26_i32_2 : BitVec 32 := 26#32
  let v8 : BitVec 1 := Scalar.cmpi .eq arg0 c26_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let v2 : BitVec 32 := Scalar.minsi v1 c24_i32
  let c2_i32 : BitVec 32 := 2#32
  let v3 : BitVec 32 := Scalar.muli c2_i32 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let v2 : BitVec 32 := Scalar.minsi v1 c24_i32
  let c2_i32 : BitVec 32 := 2#32
  let v3 : BitVec 32 := Scalar.muli c2_i32 v2
  let c1_i32_0 : BitVec 32 := 1#32
  let v4 : BitVec 32 := Scalar.addi v3 c1_i32_0
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x10000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x10000 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x10000 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S1x10000x1 : Shape := ⟨3, ![1, 10000, 1]⟩
abbrev S1x128 : Shape := ⟨2, ![1, 128]⟩
abbrev S1x20000 : Shape := ⟨2, ![1, 20000]⟩

abbrev nBuf : Space → Nat
  | .hbm => 98
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S_, .i32⟩
  | .hbm, ⟨5, _⟩ => ⟨S1x10000, .f32⟩
  | .hbm, ⟨6, _⟩ => ⟨S1x10000, .f32⟩
  | .hbm, ⟨7, _⟩ => ⟨S1x10000, .f32⟩
  | .hbm, ⟨8, _⟩ => ⟨S128x128, .f32⟩
  | .hbm, ⟨9, _⟩ => ⟨S128, .f32⟩
  | .hbm, ⟨10, _⟩ => ⟨S_, .f32⟩
  | .hbm, ⟨11, _⟩ => ⟨S128x128, .f32⟩
  | .hbm, ⟨12, _⟩ => ⟨S128, .f32⟩
  | .hbm, ⟨13, _⟩ => ⟨S_, .f32⟩
  | .hbm, ⟨14, _⟩ => ⟨S128x128, .f32⟩
  | .hbm, ⟨15, _⟩ => ⟨S1, .f32⟩
  | .hbm, ⟨16, _⟩ => ⟨S1x10000x128, .f32⟩
  | .hbm, ⟨17, _⟩ => ⟨S1x1x128, .f32⟩
  | .hbm, ⟨18, _⟩ => ⟨S1x10000x128, .f32⟩
  | .hbm, ⟨19, _⟩ => ⟨S1x10000x128, .f32⟩
  | .hbm, ⟨20, _⟩ => ⟨S1x10000x128, .f32⟩
  | .hbm, ⟨21, _⟩ => ⟨S_, .f32⟩
  | .hbm, ⟨22, _⟩ => ⟨S1x10000x128, .f32⟩
  | .hbm, ⟨23, _⟩ => ⟨S1x10000x128, .i1⟩
  | .hbm, ⟨24, _⟩ => ⟨S1x10000x128, .f32⟩
  | .hbm, ⟨25, _⟩ => ⟨S1x10000x128, .f32⟩
  | .hbm, ⟨26, _⟩ => ⟨S1x10000x128, .f32⟩
  | .hbm, ⟨27, _⟩ => ⟨S1x10000x128, .f32⟩
  | .hbm, ⟨28, _⟩ => ⟨S1x1x128, .f32⟩
  | .hbm, ⟨29, _⟩ => ⟨S1x10000x128, .f32⟩
  | .hbm, ⟨30, _⟩ => ⟨S1x10000x128, .f32⟩
  | .hbm, ⟨31, _⟩ => ⟨S1x10000x128, .f32⟩
  | .hbm, ⟨32, _⟩ => ⟨S_, .f32⟩
  | .hbm, ⟨33, _⟩ => ⟨S1x10000x128, .f32⟩
  | .hbm, ⟨34, _⟩ => ⟨S1x10000x128, .i1⟩
  | .hbm, ⟨35, _⟩ => ⟨S1x10000x128, .f32⟩
  | .hbm, ⟨36, _⟩ => ⟨S1x10000x128, .f32⟩
  | .hbm, ⟨37, _⟩ => ⟨S1x10000x128, .f32⟩
  | .hbm, ⟨38, _⟩ => ⟨S1x10000x128, .f32⟩
  | .hbm, ⟨39, _⟩ => ⟨S1x1x128, .f32⟩
  | .hbm, ⟨40, _⟩ => ⟨S1x10000x128, .f32⟩
  | .hbm, ⟨41, _⟩ => ⟨S1x10000x128, .f32⟩
  | .hbm, ⟨42, _⟩ => ⟨S1x10000x128, .f32⟩
  | .hbm, ⟨43, _⟩ => ⟨S_, .f32⟩
  | .hbm, ⟨44, _⟩ => ⟨S1x10000x128, .f32⟩
  | .hbm, ⟨45, _⟩ => ⟨S1x10000x128, .i1⟩
  | .hbm, ⟨46, _⟩ => ⟨S1x10000x128, .f32⟩
  | .hbm, ⟨47, _⟩ => ⟨S1x10000x128, .f32⟩
  | .hbm, ⟨48, _⟩ => ⟨S1x10000x128, .f32⟩
  | .hbm, ⟨49, _⟩ => ⟨S_, .f32⟩
  | .hbm, ⟨50, _⟩ => ⟨S1x10000x128, .f32⟩
  | .hbm, ⟨51, _⟩ => ⟨S1x10000x128, .f32⟩
  | .hbm, ⟨52, _⟩ => ⟨S1x10000x128, .f32⟩
  | .hbm, ⟨53, _⟩ => ⟨S1x10000x1, .f32⟩
  | .hbm, ⟨54, _⟩ => ⟨S1x10000x128, .f32⟩
  | .hbm, ⟨55, _⟩ => ⟨S1x10000x128, .f32⟩
  | .hbm, ⟨56, _⟩ => ⟨S_, .f32⟩
  | .hbm, ⟨57, _⟩ => ⟨S1x128, .f32⟩
  | .hbm, ⟨58, _⟩ => ⟨S_, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S1x10000x128, .f32⟩
  | .hbm, ⟨71, _⟩ => ⟨S1x1x128, .f32⟩
  | .hbm, ⟨72, _⟩ => ⟨S1x10000x128, .f32⟩
  | .hbm, ⟨73, _⟩ => ⟨S1x10000x128, .f32⟩
  | .hbm, ⟨74, _⟩ => ⟨S1x10000x128, .f32⟩
  | .hbm, ⟨75, _⟩ => ⟨S_, .f32⟩
  | .hbm, ⟨76, _⟩ => ⟨S1x10000x128, .f32⟩
  | .hbm, ⟨77, _⟩ => ⟨S1x10000x128, .i1⟩
  | .hbm, ⟨78, _⟩ => ⟨S1x10000x128, .f32⟩
  | .hbm, ⟨79, _⟩ => ⟨S1x10000x128, .f32⟩
  | .hbm, ⟨80, _⟩ => ⟨S1x10000x128, .f32⟩
  | .hbm, ⟨81, _⟩ => ⟨S_, .f32⟩
  | .hbm, ⟨82, _⟩ => ⟨S1x10000x128, .f32⟩
  | .hbm, ⟨83, _⟩ => ⟨S1x10000x128, .f32⟩
  | .hbm, ⟨84, _⟩ => ⟨S1x10000x128, .f32⟩
  | .hbm, ⟨85, _⟩ => ⟨S1x128, .f32⟩
  | .hbm, ⟨86, _⟩ => ⟨S1x10000, .f32⟩
  | .hbm, ⟨87, _⟩ => ⟨S_, .f32⟩
  | .hbm, ⟨88, _⟩ => ⟨S1x10000, .f32⟩
  | .hbm, ⟨89, _⟩ => ⟨S1x10000, .f32⟩
  | .hbm, ⟨90, _⟩ => ⟨S1x10000, .f32⟩
  | .hbm, ⟨91, _⟩ => ⟨S1x128, .f32⟩
  | .hbm, ⟨92, _⟩ => ⟨S1x10000, .f32⟩
  | .hbm, ⟨93, _⟩ => ⟨S_, .f32⟩
  | .hbm, ⟨94, _⟩ => ⟨S1x10000, .f32⟩
  | .hbm, ⟨95, _⟩ => ⟨S1x10000, .f32⟩
  | .hbm, ⟨96, _⟩ => ⟨S1x10000, .f32⟩
  | .hbm, ⟨97, _⟩ => ⟨S1x20000, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Proof.Ideal.Steps.lean ====
/-
  What ONE grid point of the kernel does to the buffers it touches, for each of the three kinds of point.

  The grid has 27 points. Point 0 fills the feature array (four bands of 128 columns); each of the points 1 to 25 computes
  400 rows of the two hidden arrays from one pair of adjacency row blocks and the feature array; point 26 reads the two
  hidden arrays out into the two score rows. Each kind is one triple here, over arbitrary whole buffers.
-/
module

public import proofs.«01_k».proof.Proof.Gen.KernelIdeal.Skeleton
public import proofs.«01_k».proof.Proof.Gen.KernelIdeal.Frame
public import Idealize.ShloMosaic.Lib.WritesUnit
public import Idealize.ShloMosaic.Lib.ValueIdxCore
public import Idealize.ShloMosaic.Lib.Pipeline.Value

@[expose] public section

noncomputable section

namespace Cert.MegaIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Which kind of point a grid coordinate is -/

/-- The first branch runs at coordinate 0 and nowhere else. -/
theorem cond1_iff : ∀ i : grid0.Coords, k0_cond1 i = 1#1 ↔ (i 0).val = 0 := by decide +kernel
/-- The second branch runs at the coordinates 1 to 25. -/
theorem cond2_iff : ∀ i : grid0.Coords, k0_cond2 i = 1#1 ↔ 1 ≤ (i 0).val ∧ (i 0).val < 26 := by decide +kernel
/-- The third branch runs at coordinate 26 and nowhere else. -/
theorem cond3_iff : ∀ i : grid0.Coords, k0_cond3 i = 1#1 ↔ (i 0).val = 26 := by decide +kernel
/-- In the second branch the rows stored start at 400 times (the coordinate minus 1). -/
theorem off5_eq : ∀ i : grid0.Coords, k0_cond2 i = 1#1 → k0_off5 i = ![400 * ((i 0).val - 1), 0] := by decide +kernel

/-! ## What the stores leave, as arrays -/

/-- Four arrays of 128 columns side by side. -/
def bands (p1 p2 p3 p4 : Vec F S10000x128 .bf16) : Vec F S10000x512 .bf16 := fun y =>
  if h0 : (y 1).val < 128 then p1 (ix2 (y 0) ⟨(y 1).val, h0⟩)
  else if h1 : (y 1).val < 256 then p2 (ix2 (y 0) ⟨(y 1).val - 128, by omega⟩)
  else if h2 : (y 1).val < 384 then p3 (ix2 (y 0) ⟨(y 1).val - 256, by omega⟩)
  else p4 (ix2 (y 0) ⟨(y 1).val - 384, by have := idx2_lt1 y; omega⟩)

/-- The feature array: the two inputs times the first weights plus the first bias in the first 256 columns, times the second
    weights plus the second bias in the last 256. -/
def featArr (s1 s2 : Vec F S10000x128 .f32) (w1 w2 : Vec F S128x128 .f32) (b1 b2 : Vec F S1x128 .f32) : Vec F S10000x512 .bf16 :=
  bands (k0_pay9 s1 w1 b1) (k0_pay10 s2 w1 b1) (k0_pay11 s1 w2 b2) (k0_pay1 (k0_pay8 s2) w2 b2)

/-- An array with the 400 rows from row `o` on replaced by `w`. -/
def putRows (x : Vec F S10000x128 .bf16) (o : ℕ) (w : Vec F S400x128 .bf16) : Vec F S10000x128 .bf16 := fun y =>
  if h : o ≤ (y 0).val ∧ (y 0).val < o + 400 then w (ix2 ⟨(y 0).val - o, by omega⟩ (y 1)) else x y

/-- Four stores at row 0 and at the columns 0, 128, 256 and 384 leave the four bands, whatever the buffer held. -/
theorem read_bands (v : View sig .tc .vmem S10000x512 .bf16) (f : v.ty.Contents (Elt F))
    {o1 o2 o3 o4 : Fin 2 → ℕ} (e1 : o1 = ![0, 0]) (e2 : o2 = ![0, 128]) (e3 : o3 = ![0, 256]) (e4 : o4 = ![0, 384])
    (h1 : ∀ a, o1 a + S10000x128.size a ≤ S10000x512.size a) (h2 : ∀ a, o2 a + S10000x128.size a ≤ S10000x512.size a)
    (h3 : ∀ a, o3 a + S10000x128.size a ≤ S10000x512.size a) (h4 : ∀ a, o4 a + S10000x128.size a ≤ S10000x512.size a)
    (p1 p2 p3 p4 : Vec F S10000x128 .bf16) :
    v.read (Elt F) (v.writes (Elt F) f
      [⟨Rect.unit (s := S10000x512) o4 S10000x128.size h4, p4⟩, ⟨Rect.unit (s := S10000x512) o3 S10000x128.size h3, p3⟩,
       ⟨Rect.unit (s := S10000x512) o2 S10000x128.size h2, p2⟩, ⟨Rect.unit (s := S10000x512) o1 S10000x128.size h1, p1⟩])
      = bands p1 p2 p3 p4 := by
  funext y
  have hc := idx2_lt1 y
  unfold bands
  split
  · rename_i h
    rw [View.read_writes_cons_unit_of_not_mem v f h4 p4 _ y e4 1 (.inl (show (y 1).val < 384 by omega)),
      View.read_writes_cons_unit_of_not_mem v f h3 p3 _ y e3 1 (.inl (show (y 1).val < 256 by omega)),
      View.read_writes_cons_unit_of_not_mem v f h2 p2 _ y e2 1 (.inl (show (y 1).val < 128 by omega))]
    exact View.read_writes_cons_unit_of_mem v f h1 p1 _ y _ e1
      (Fin.forall_fin_two.mpr ⟨(Nat.zero_add _).symm, (Nat.zero_add _).symm⟩)
  split
  · rename_i h h'
    rw [View.read_writes_cons_unit_of_not_mem v f h4 p4 _ y e4 1 (.inl (show (y 1).val < 384 by omega)),
      View.read_writes_cons_unit_of_not_mem v f h3 p3 _ y e3 1 (.inl (show (y 1).val < 256 by omega))]
    exact View.read_writes_cons_unit_of_mem v f h2 p2 _ y _ e2
      (Fin.forall_fin_two.mpr ⟨(Nat.zero_add _).symm, show (y 1).val = 128 + ((y 1).val - 128) by omega⟩)
  split
  · rename_i h h' h''
    rw [View.read_writes_cons_unit_of_not_mem v f h4 p4 _ y e4 1 (.inl (show (y 1).val < 384 by omega))]
    exact View.read_writes_cons_unit_of_mem v f h3 p3 _ y _ e3
      (Fin.forall_fin_two.mpr ⟨(Nat.zero_add _).symm, show (y 1).val = 256 + ((y 1).val - 256) by omega⟩)
  · rename_i h h' h''
    exact View.read_writes_cons_unit_of_mem v f h4 p4 _ y _ e4
      (Fin.forall_fin_two.mpr ⟨(Nat.zero_add _).symm, show (y 1).val = 384 + ((y 1).val - 384) by omega⟩)

/-- One store of 400 rows from row `o` on leaves those rows replaced and the others as they were. -/
theorem read_putRows (v : View sig .tc .vmem S10000x128 .bf16) (f : v.ty.Contents (Elt F)) {off : Fin 2 → ℕ} {o : ℕ}
    (eo : off = ![o, 0]) (h : ∀ a, off a + S400x128.size a ≤ S10000x128.size a) (w : Vec F S400x128 .bf16) :
    v.read (Elt F) (v.writes (Elt F) f [⟨Rect.unit (s := S10000x128) off S400x128.size h, w⟩])
      = putRows (v.read (Elt F) f) o w := by
  funext y
  unfold putRows
  split
  · rename_i hy
    exact View.read_writes_cons_rows_of_mem (d := ![10000, 128]) v f h w [] y _ eo
      (show (y 0).val = o + ((y 0).val - o) by omega) rfl
  · rename_i hy
    rw [View.read_writes_cons_rows_of_not_mem (d := ![10000, 128]) v f h w [] y eo (W := 400) rfl (by omega)]
    rfl

/-- A load of a whole buffer reads what the buffer holds. -/
theorem readAt_whole {S : Shape} {e : EltTy} (v : View sig .tc .vmem S e) (f : v.ty.Contents (Elt F)) {off : Fin S.rank → ℕ}
    (inb : ∀ a, off a + S.size a ≤ S.size a) (h : off = fun _ => 0) :
    View.readAt (Elt F) v (Rect.unit off S.size inb).toLoadRect f = v.read (Elt F) f :=
  View.ld_unit_zero h inb (v.read (Elt F) f)

/-- The offsets of a whole load of a matrix are zero. -/
theorem zero2 : (![0, 0] : Fin 2 → ℕ) = fun _ => 0 := by
  funext a; match a with | ⟨0, _⟩ => rfl | ⟨1, _⟩ => rfl

/-- One store of a whole row of 10000 leaves its payload. -/
theorem read_putRow (v : View sig .tc .vmem S1x10000 .f32) (f : v.ty.Contents (Elt F))
    (inb : ∀ a, (![0, 0] : Fin 2 → ℕ) a + (![1, 10000] : Fin 2 → ℕ) a ≤ S1x10000.size a) (w : Vec F S1x10000 .f32) :
    v.read (Elt F) (v.writes (Elt F) f [⟨Rect.unit (s := S1x10000) ![0, 0] ![1, 10000] inb, w⟩]) = w := by
  funext y
  exact View.read_writes_cons_unit_of_mem (s := S1x10000) v f inb w [] y y rfl
    (Fin.forall_fin_two.mpr ⟨(Nat.zero_add _).symm, (Nat.zero_add _).symm⟩)

/-- POINT 0: from the inputs, the weights and the biases, the feature buffer ends at the feature array. -/
theorem step_first (c : Dev nD) (i : grid0.Coords) (hi : (i 0).val = 0) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x10000 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x10000 .f32) (harg11 : arg11.IsWhole) (arg12 : Memref sig .tc .vmem S128x128 .f32) (harg12 : arg12.IsWhole) (arg13 : Memref sig .tc .vmem S1x10000 .f32) (harg13 : arg13.IsWhole) (arg14 : Memref sig .tc .vmem S1x10000 .f32) (harg14 : arg14.IsWhole) (arg15 : Memref sig .tc .vmem S10000x512 .bf16) (harg15 : arg15.IsWhole) (arg16 : Memref sig .tc .vmem S10000x128 .bf16) (harg16 : arg16.IsWhole) (arg17 : Memref sig .tc .vmem S10000x128 .bf16) (harg17 : arg17.IsWhole)
    (x1 x2 : Vec F S10000x128 .f32) (x3 x4 : Vec F S128x128 .f32) (x5 x6 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg15 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg15 fullShare (featArr x1 x2 x3 x4 x5 x6)) -∗ K ⟨⟩))
      ⊢ wp frame (wpE (defs₀ (F := F)) Variants.none c none) Set.univ
          (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have c1 : k0_cond1 i = 1#1 := (cond1_iff i).mpr hi
  have c2 : ¬ k0_cond2 i = 1#1 := fun h => by have := (cond2_iff i).mp h; omega
  have c3 : ¬ k0_cond3 i = 1#1 := fun h => by have := (cond3_iff i).mp h; omega
  simp only [cc0__mega_kernel_eq_skeleton]
  unfold cc0__mega_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d15, %f15, -, H15⟩, Hk⟩
  subst hf1 hf2 hf3 hf4 hf5 hf6
  have w1 : View.readAt (Elt F) arg1.view (Rect.unit (s := S10000x128) ![0, 0] ![10000, 128] inb_S10000x128_S10000x128_0_0).toLoadRect f1
      = View.read (Elt F) arg1.view f1 := readAt_whole arg1.view f1 inb_S10000x128_S10000x128_0_0 zero2
  have w2 : View.readAt (Elt F) arg2.view (Rect.unit (s := S10000x128) ![0, 0] ![10000, 128] inb_S10000x128_S10000x128_0_0).toLoadRect f2
      = View.read (Elt F) arg2.view f2 := readAt_whole arg2.view f2 inb_S10000x128_S10000x128_0_0 zero2
  have w3 : View.readAt (Elt F) arg3.view (Rect.unit (s := S128x128) ![0, 0] ![128, 128] inb_S128x128_S128x128_0_0).toLoadRect f3
      = View.read (Elt F) arg3.view f3 := readAt_whole arg3.view f3 inb_S128x128_S128x128_0_0 zero2
  have w4 : View.readAt (Elt F) arg4.view (Rect.unit (s := S128x128) ![0, 0] ![128, 128] inb_S128x128_S128x128_0_0).toLoadRect f4
      = View.read (Elt F) arg4.view f4 := readAt_whole arg4.view f4 inb_S128x128_S128x128_0_0 zero2
  have w5 : View.readAt (Elt F) arg5.view (Rect.unit (s := S1x128) ![0, 0] ![1, 128] inb_S1x128_S1x128_0_0).toLoadRect f5
      = View.read (Elt F) arg5.view f5 := readAt_whole arg5.view f5 inb_S1x128_S1x128_0_0 zero2
  have w6 : View.readAt (Elt F) arg6.view (Rect.unit (s := S1x128) ![0, 0] ![1, 128] inb_S1x128_S1x128_0_0).toLoadRect f6
      = View.read (Elt F) arg6.view f6 := readAt_whole arg6.view f6 inb_S1x128_S1x128_0_0 zero2
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H15
  ipureintro
  have z : ∀ k, (![10000 * (i 0).val, k] : Fin 2 → ℕ) = ![0, k] := fun k => by rw [hi]
  delta step_first.sl.r step_first.sl.r_1 step_first.sl.r_2
  exact read_bands _ f15 ((k0_off1_eq i).trans (z 0)) ((k0_off2_eq i).trans (z 128)) ((k0_off3_eq i).trans (z 256))
    ((k0_off4_eq i).trans (z 384)) _ _ _ _ _ _ _ _

/-- POINTS 1 TO 25: from the two adjacency row blocks, the feature array and the two slopes, 400 rows of each hidden buffer are
    replaced. -/
theorem step_rows (c : Dev nD) (i : grid0.Coords) (h1 : 1 ≤ (i 0).val) (h2 : (i 0).val < 26) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x10000 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x10000 .f32) (harg11 : arg11.IsWhole) (arg12 : Memref sig .tc .vmem S128x128 .f32) (harg12 : arg12.IsWhole) (arg13 : Memref sig .tc .vmem S1x10000 .f32) (harg13 : arg13.IsWhole) (arg14 : Memref sig .tc .vmem S1x10000 .f32) (harg14 : arg14.IsWhole) (arg15 : Memref sig .tc .vmem S10000x512 .bf16) (harg15 : arg15.IsWhole) (arg16 : Memref sig .tc .vmem S10000x128 .bf16) (harg16 : arg16.IsWhole) (arg17 : Memref sig .tc .vmem S10000x128 .bf16) (harg17 : arg17.IsWhole)
    (x7 x8 : Vec F S200x10000 .f32) (x9 x10 : Vec F S1x128 .f32) (x15 : Vec F S10000x512 .bf16) (x16 x17 : Vec F S10000x128 .bf16) (K : PUnit → sProp 𝕄) :
    iprop(owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg15 fullShare x15
        ∗ owns (c : Thread nD τ) arg16 fullShare x16
        ∗ owns (c : Thread nD τ) arg17 fullShare x17
        ∗ (iprop(owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg15 fullShare x15
            ∗ owns (c : Thread nD τ) arg16 fullShare (putRows x16 (400 * ((i 0).val - 1)) (k0_pay2 (k0_pay15 x7 x8 x15 x9 x10)))
            ∗ owns (c : Thread nD τ) arg17 fullShare (putRows x17 (400 * ((i 0).val - 1)) (k0_pay3 (k0_pay16 x7 x8 x15 x9 x10)))) -∗ K ⟨⟩))
      ⊢ wp frame (wpE (defs₀ (F := F)) Variants.none c none) Set.univ
          (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have c1 : ¬ k0_cond1 i = 1#1 := fun h => by have := (cond1_iff i).mp h; omega
  have c2 : k0_cond2 i = 1#1 := (cond2_iff i).mpr ⟨h1, h2⟩
  have c3 : ¬ k0_cond3 i = 1#1 := fun h => by have := (cond3_iff i).mp h; omega
  simp only [cc0__mega_kernel_eq_skeleton]
  unfold cc0__mega_kernel_skel
  simp only [k0_part1_eq_skeleton, k0_part2_eq_skeleton]
  unfold owns
  iintro ⟨⟨%f7, %hf7, H7⟩, ⟨%f8, %hf8, H8⟩, ⟨%f9, %hf9, H9⟩, ⟨%f10, %hf10, H10⟩, ⟨%f15, %hf15, H15⟩, ⟨%f16, %hf16, H16⟩, ⟨%f17, %hf17, H17⟩, Hk⟩
  subst hf7 hf8 hf9 hf10 hf15 hf16 hf17
  have w7 : View.readAt (Elt F) arg7.view (Rect.unit (s := S200x10000) ![0, 0] ![200, 10000] inb_S200x10000_S200x10000_0_0).toLoadRect f7
      = View.read (Elt F) arg7.view f7 := readAt_whole arg7.view f7 inb_S200x10000_S200x10000_0_0 zero2
  have w8 : View.readAt (Elt F) arg8.view (Rect.unit (s := S200x10000) ![0, 0] ![200, 10000] inb_S200x10000_S200x10000_0_0).toLoadRect f8
      = View.read (Elt F) arg8.view f8 := readAt_whole arg8.view f8 inb_S200x10000_S200x10000_0_0 zero2
  have w9 : View.readAt (Elt F) arg9.view (Rect.unit (s := S1x128) ![0, 0] ![1, 128] inb_S1x128_S1x128_0_0).toLoadRect f9
      = View.read (Elt F) arg9.view f9 := readAt_whole arg9.view f9 inb_S1x128_S1x128_0_0 zero2
  have w10 : View.readAt (Elt F) arg10.view (Rect.unit (s := S1x128) ![0, 0] ![1, 128] inb_S1x128_S1x128_0_0).toLoadRect f10
      = View.read (Elt F) arg10.view f10 := readAt_whole arg10.view f10 inb_S1x128_S1x128_0_0 zero2
  have w15 : View.readAt (Elt F) arg15.view (Rect.unit (s := S10000x512) ![0, 0] ![10000, 512] inb_S10000x512_S10000x512_0_0).toLoadRect f15
      = View.read (Elt F) arg15.view f15 := readAt_whole arg15.view f15 inb_S10000x512_S10000x512_0_0 zero2
  sl_exec
  sl_step
  iapply Hk
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H15]
  · iexists f15; isplitr; · ipureintro; rfl
    iexact H15
  isplitl [H16]
  · iexists _; isplitr
    swap; · iexact H16
    ipureintro
    refine (read_putRows arg16.view f16 (off5_eq i c2) _ _).trans ?_
    delta step_rows.sl.r
    rfl
  iexists _; isplitr
  swap; · iexact H17
  ipureintro
  refine (read_putRows arg17.view f17 (off5_eq i c2) _ _).trans ?_
  delta step_rows.sl.r_1
  rfl

/-- POINT 26: from the mask, the last weights and the two hidden arrays, the two score rows. -/
theorem step_last (c : Dev nD) (i : grid0.Coords) (hi : (i 0).val = 26) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x10000 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x10000 .f32) (harg11 : arg11.IsWhole) (arg12 : Memref sig .tc .vmem S128x128 .f32) (harg12 : arg12.IsWhole) (arg13 : Memref sig .tc .vmem S1x10000 .f32) (harg13 : arg13.IsWhole) (arg14 : Memref sig .tc .vmem S1x10000 .f32) (harg14 : arg14.IsWhole) (arg15 : Memref sig .tc .vmem S10000x512 .bf16) (harg15 : arg15.IsWhole) (arg16 : Memref sig .tc .vmem S10000x128 .bf16) (harg16 : arg16.IsWhole) (arg17 : Memref sig .tc .vmem S10000x128 .bf16) (harg17 : arg17.IsWhole)
    (x11 : Vec F S1x10000 .f32) (x12 : Vec F S128x128 .f32) (x16 x17 : Vec F S10000x128 .bf16) (K : PUnit → sProp 𝕄) :
    iprop(owns (c : Thread nD τ) arg11 fullShare x11
        ∗ owns (c : Thread nD τ) arg12 fullShare x12
        ∗ (∃ d, owns (c : Thread nD τ) arg13 fullShare d)
        ∗ (∃ d, owns (c : Thread nD τ) arg14 fullShare d)
        ∗ owns (c : Thread nD τ) arg16 fullShare x16
        ∗ owns (c : Thread nD τ) arg17 fullShare x17
        ∗ (iprop(owns (c : Thread nD τ) arg11 fullShare x11
            ∗ owns (c : Thread nD τ) arg12 fullShare x12
            ∗ owns (c : Thread nD τ) arg13 fullShare (k0_pay5 x11 x16 x11 x12 x16)
            ∗ owns (c : Thread nD τ) arg14 fullShare (k0_pay6 x11 x16 x11 x12 x17)
            ∗ owns (c : Thread nD τ) arg16 fullShare x16
            ∗ owns (c : Thread nD τ) arg17 fullShare x17) -∗ K ⟨⟩))
      ⊢ wp frame (wpE (defs₀ (F := F)) Variants.none c none) Set.univ
          (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have c1 : ¬ k0_cond1 i = 1#1 := fun h => by have := (cond1_iff i).mp h; omega
  have c2 : ¬ k0_cond2 i = 1#1 := fun h => by have := (cond2_iff i).mp h; omega
  have c3 : k0_cond3 i = 1#1 := (cond3_iff i).mpr hi
  simp only [cc0__mega_kernel_eq_skeleton]
  unfold cc0__mega_kernel_skel
  simp only [k0_part1_eq_skeleton, k0_part2_eq_skeleton]
  unfold owns
  iintro ⟨⟨%f11, %hf11, H11⟩, ⟨%f12, %hf12, H12⟩, ⟨%d13, %f13, -, H13⟩, ⟨%d14, %f14, -, H14⟩, ⟨%f16, %hf16, H16⟩, ⟨%f17, %hf17, H17⟩, Hk⟩
  subst hf11 hf12 hf16 hf17
  have w11 : View.readAt (Elt F) arg11.view (Rect.unit (s := S1x10000) ![0, 0] ![1, 10000] inb_S1x10000_S1x10000_0_0).toLoadRect f11
      = View.read (Elt F) arg11.view f11 := readAt_whole arg11.view f11 inb_S1x10000_S1x10000_0_0 zero2
  have w12 : View.readAt (Elt F) arg12.view (Rect.unit (s := S128x128) ![0, 0] ![128, 128] inb_S128x128_S128x128_0_0).toLoadRect f12
      = View.read (Elt F) arg12.view f12 := readAt_whole arg12.view f12 inb_S128x128_S128x128_0_0 zero2
  have w16 : View.readAt (Elt F) arg16.view (Rect.unit (s := S10000x128) ![0, 0] ![10000, 128] inb_S10000x128_S10000x128_0_0).toLoadRect f16
      = View.read (Elt F) arg16.view f16 := readAt_whole arg16.view f16 inb_S10000x128_S10000x128_0_0 zero2
  have w17 : View.readAt (Elt F) arg17.view (Rect.unit (s := S10000x128) ![0, 0] ![10000, 128] inb_S10000x128_S10000x128_0_0).toLoadRect f17
      = View.read (Elt F) arg17.view f17 := readAt_whole arg17.view f17 inb_S10000x128_S10000x128_0_0 zero2
  sl_exec
  sl_step
  iapply Hk
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact read_putRow arg13.view f13 inb_S1x10000_S1x10000_0_0 _
  isplitl [H14]
  · iexists _; isplitr
    swap; · iexact H14
    ipureintro
    exact read_putRow arg14.view f14 inb_S1x10000_S1x10000_0_0 _
  isplitl [H16]
  · iexists f16; isplitr; · ipureintro; rfl
    iexact H16
  iexists f17; isplitr; · ipureintro; rfl
  iexact H17

end Cert.MegaIdeal

end
-- ==== Proof.Ideal.Run.lean ====
/-
  The run of the Pallas call: what the three scratch buffers hold before each grid point, what the two outputs hold at the end,
  the body at every point (from the triples of `Steps`), and the launch around the host operations.
-/
module

public import proofs.«01_k».proof.Proof.Ideal.Steps
public import proofs.«01_k».proof.Proof.Gen.KernelIdeal.Frame
public import Idealize.ShloMosaic.Lib.Claim

@[expose] public section

noncomputable section

namespace Cert.MegaIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first grid point. -/
def pt0 : Fin cfg0.N := ⟨0, by decide⟩

/-- The grid point that computes row `y 0` of the hidden arrays: the rows come 400 at a time, from point 1 on. -/
def rowPt (y : S10000x128.Idx) : Fin cfg0.N :=
  ⟨(y 0).val / 400 + 1, by have := idx2_lt0 y; have h : cfg0.N = 27 := N_0; omega⟩

/-- The feature array that point 0 leaves in the first scratch buffer. -/
def feat (c : Dev nD) : Vec F S10000x512 .bf16 :=
  featArr (iblk m c 0 pt0) (iblk m c 1 pt0) (iblk m c 2 pt0) (iblk m c 3 pt0) (iblk m c 4 pt0) (iblk m c 5 pt0)

/-- The 400 rows of the first hidden array that point `t` computes, -/
def rows1 (c : Dev nD) (t : Fin cfg0.N) : Vec F S400x128 .bf16 :=
  k0_pay2 (k0_pay15 (iblk m c 6 t) (iblk m c 7 t) (feat m c) (iblk m c 8 t) (iblk m c 9 t))

/-- and of the second. -/
def rows2 (c : Dev nD) (t : Fin cfg0.N) : Vec F S400x128 .bf16 :=
  k0_pay3 (k0_pay16 (iblk m c 6 t) (iblk m c 7 t) (feat m c) (iblk m c 8 t) (iblk m c 9 t))

/-- The first hidden array, all rows, -/
def hid1 (c : Dev nD) : Vec F S10000x128 .bf16 := fun y =>
  rows1 m c (rowPt y) (ix2 ⟨(y 0).val % 400, Nat.mod_lt _ (by norm_num)⟩ (y 1))

/-- and the second. -/
def hid2 (c : Dev nD) : Vec F S10000x128 .bf16 := fun y =>
  rows2 m c (rowPt y) (ix2 ⟨(y 0).val % 400, Nat.mod_lt _ (by norm_num)⟩ (y 1))

/-- The first score row, from the mask, the last weights and the hidden arrays, -/
def score1 (c : Dev nD) (t : Fin cfg0.N) : Vec F S1x10000 .f32 :=
  k0_pay5 (iblk m c 10 t) (hid1 m c) (iblk m c 10 t) (iblk m c 11 t) (hid1 m c)

/-- and the second. -/
def score2 (c : Dev nD) (t : Fin cfg0.N) : Vec F S1x10000 .f32 :=
  k0_pay6 (iblk m c 10 t) (hid1 m c) (iblk m c 10 t) (iblk m c 11 t) (hid2 m c)

/-- Replacing the 400 rows of point `t` extends what is known of the first hidden array by those rows, -/
theorem put_rows1 (c : Dev nD) (t : Fin cfg0.N) (ht : 1 ≤ t.val) (x : Vec F S10000x128 .bf16)
    (h : ∀ y : S10000x128.Idx, (y 0).val < 400 * (t.val - 1) → x y = hid1 m c y) (y : S10000x128.Idx)
    (hy : (y 0).val < 400 * t.val) : putRows x (400 * (t.val - 1)) (rows1 m c t) y = hid1 m c y := by
  unfold putRows
  split
  · rename_i hr
    have e : rowPt y = t := Fin.ext (show (y 0).val / 400 + 1 = t.val by omega)
    unfold hid1
    rw [e]
    congr 2
    exact Fin.ext (show (y 0).val - 400 * (t.val - 1) = (y 0).val % 400 by omega)
  · rename_i hr
    exact h y (by omega)

/-- and of the second. -/
theorem put_rows2 (c : Dev nD) (t : Fin cfg0.N) (ht : 1 ≤ t.val) (x : Vec F S10000x128 .bf16)
    (h : ∀ y : S10000x128.Idx, (y 0).val < 400 * (t.val - 1) → x y = hid2 m c y) (y : S10000x128.Idx)
    (hy : (y 0).val < 400 * t.val) : putRows x (400 * (t.val - 1)) (rows2 m c t) y = hid2 m c y := by
  unfold putRows
  split
  · rename_i hr
    have e : rowPt y = t := Fin.ext (show (y 0).val / 400 + 1 = t.val by omega)
    unfold hid2
    rw [e]
    congr 2
    exact Fin.ext (show (y 0).val - 400 * (t.val - 1) = (y 0).val % 400 by omega)
  · rename_i hr
    exact h y (by omega)

/-! ## The invariant and the proof data -/

/-- What is known of the scratch buffers before point `t`: from point 1 on the first holds the feature array, and the rows of
    the points passed hold the hidden arrays' rows. -/
def Known (c : Dev nD) (t : ℕ) (f : Vec F S10000x512 .bf16) (h1 h2 : Vec F S10000x128 .bf16) : Prop :=
  (1 ≤ t → f = feat m c) ∧ (∀ y : S10000x128.Idx, (y 0).val < 400 * (t - 1) → h1 y = hid1 m c y)
    ∧ ∀ y : S10000x128.Idx, (y 0).val < 400 * (t - 1) → h2 y = hid2 m c y

/-- The invariant before point `t`: the scratch buffers at contents of which `Known` holds, and the generator register. -/
def Inv (c : Dev nD) (t : ℕ) : sProp 𝕄 :=
  iprop(∃ f h1 h2, ⌜Known m c t f h1 h2⌝
    ∗ owns (c : Thread nD τ) (Memref.whole cc0_scratch0) fullShare f
    ∗ owns (c : Thread nD τ) (Memref.whole cc0_scratch1) fullShare h1
    ∗ owns (c : Thread nD τ) (Memref.whole cc0_scratch2) fullShare h2
    ∗ ∃ r, prngReg c r)

/-- The proof data: the arrays as the region finds them; each input's buffer left at its block, the outputs' at the score rows
    (read at the last point only); the invariant; the inputs' shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => score1 m c t
    | ⟨13, _⟩ => score2 m c t
  Φ t := Inv m c t.val
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- The invariant of the proof data. -/
theorem phi_eq (c : Dev nD) (t : Fin (cfg0.N + 1)) : (dats m 0 c).Φ t = Inv m c t.val := by dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = score1 m c t := by dsimp only [dats]
theorem after0_13 (c : Dev nD) (t : Fin cfg0.N) : (dats m 0 c).after 13 t = score2 m c t := by dsimp only [dats]

/-! Each input's buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body at a point -/

/-- The grid has one axis, and its coordinate is the point's number. -/
theorem coord_val : ∀ t : Fin grid0.N, (grid0.coords t 0).val = t.val := by decide +kernel

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns: every input's buffer at its block, the outputs' as received except at the last point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (dats m 0 c).leavesExact 12 t ∗ (dats m 0 c).leavesExact 13 t)

/-- Before the last point an output's buffer is handed back as received. -/
theorem leaves12_early (c : Dev nD) (t : Fin cfg0.N) (ht : t.val < 26) :
    (dats m 0 c).leavesExact 12 t = (iprop(∃ d, owns (c : Thread nD τ) (st0_12 t) fullShare ((dats m 0 c).before 12 t d)) : sProp 𝕄) := by
  refine (dats m 0 c).leavesExact_idle 12 t ?_ ?_
  · have : ¬ k0_cond3 (grid0.coords t) = 1#1 := fun h => by
      have := (cond3_iff _).mp h; rw [coord_val] at this; omega
    show (!(k0_cond3 (grid0.coords t) == 1#1)) = true
    simp [this]
  · rw [← Bool.not_eq_true, flush0_12]; omega

theorem leaves13_early (c : Dev nD) (t : Fin cfg0.N) (ht : t.val < 26) :
    (dats m 0 c).leavesExact 13 t = (iprop(∃ d, owns (c : Thread nD τ) (st0_13 t) fullShare ((dats m 0 c).before 13 t d)) : sProp 𝕄) := by
  refine (dats m 0 c).leavesExact_idle 13 t ?_ ?_
  · have : ¬ k0_cond3 (grid0.coords t) = 1#1 := fun h => by
      have := (cond3_iff _).mp h; rw [coord_val] at this; omega
    show (!(k0_cond3 (grid0.coords t) == 1#1)) = true
    simp [this]
  · rw [← Bool.not_eq_true, flush0_13]; omega

/-- At the last point it holds its score row. -/
theorem leaves12_last (c : Dev nD) (t : Fin cfg0.N) (ht : t.val = 26) :
    (dats m 0 c).leavesExact 12 t = (owns (c : Thread nD τ) (st0_12 t) fullShare (score1 m c t) : sProp 𝕄) := by
  have h : cfg0.idle 12 (cfg0.grid.coords t) = false := by
    have : k0_cond3 (grid0.coords t) = 1#1 := (cond3_iff _).mpr (by rw [coord_val]; exact ht)
    show (!(k0_cond3 (grid0.coords t) == 1#1)) = false
    simp [this]
  unfold Dat.leavesExact
  rw [h, after0_12]

theorem leaves13_last (c : Dev nD) (t : Fin cfg0.N) (ht : t.val = 26) :
    (dats m 0 c).leavesExact 13 t = (owns (c : Thread nD τ) (st0_13 t) fullShare (score2 m c t) : sProp 𝕄) := by
  have h : cfg0.idle 13 (cfg0.grid.coords t) = false := by
    have : k0_cond3 (grid0.coords t) = 1#1 := (cond3_iff _).mpr (by rw [coord_val]; exact ht)
    show (!(k0_cond3 (grid0.coords t) == 1#1)) = false
    simp [this]
  unfold Dat.leavesExact
  rw [h, after0_13]

/-- Point 0 fills the feature array. -/
theorem sound_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl, phi_eq, phi_eq,
    after0_0, after0_1, after0_2, after0_3, after0_4, after0_5, after0_6, after0_7, after0_8, after0_9, after0_10, after0_11, leaves12_early m c t (by omega), leaves13_early m c t (by omega)]
  unfold Inv
  iintro ⟨⟨%f, %h1, %h2, %hk, HF, HH1, HH2, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have hi : (grid0.coords t 0).val = 0 := (coord_val t).trans ht
  have e0 : t = pt0 := Fin.ext ht
  have he : featArr (iblk m c 0 t) (iblk m c 1 t) (iblk m c 2 t) (iblk m c 3 t) (iblk m c 4 t) (iblk m c 5 t) = feat m c := by
    unfold feat; rw [e0]
  iapply (step_first c (grid0.coords t) hi _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [HF]; · iexists _; iexact HF
  iintro ⟨H0, H1, H2, H3, H4, H5, HF⟩
  isplitl [HF HH1 HH2 HP]
  · iexists _, h1, h2; isplitr; · ipureintro; exact ⟨fun _ => he, fun y hy => absurd hy (by rw [show t.succ.val = t.val + 1 from rfl, ht]; omega), fun y hy => absurd hy (by rw [show t.succ.val = t.val + 1 from rfl, ht]; omega)⟩
    isplitl [HF]; · iexact HF
    isplitl [HH1]; · iexact HH1
    isplitl [HH2]; · iexact HH2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  iexists d13; iexact H13

/-- Points 1 to 25 each extend the hidden arrays by 400 rows. -/
theorem sound_rows (c : Dev nD) (t : Fin cfg0.N) (h1t : 1 ≤ t.val) (h2t : t.val < 26) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl, phi_eq, phi_eq,
    after0_0, after0_1, after0_2, after0_3, after0_4, after0_5, after0_6, after0_7, after0_8, after0_9, after0_10, after0_11, leaves12_early m c t h2t, leaves13_early m c t h2t]
  unfold Inv
  iintro ⟨⟨%f, %h1, %h2, %hk, HF, HH1, HH2, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain ⟨hk0, hk1, hk2⟩ := hk
  obtain rfl := hk0 h1t
  have p1 : ∀ y : S10000x128.Idx, (y 0).val < 400 * t.val → putRows h1 (400 * ((grid0.coords t 0).val - 1)) (rows1 m c t) y = hid1 m c y := by
    rw [coord_val]; exact put_rows1 m c t h1t h1 hk1
  have p2 : ∀ y : S10000x128.Idx, (y 0).val < 400 * t.val → putRows h2 (400 * ((grid0.coords t 0).val - 1)) (rows2 m c t) y = hid2 m c y := by
    rw [coord_val]; exact put_rows2 m c t h1t h2 hk2
  iapply (step_rows c (grid0.coords t) (by rw [coord_val]; exact h1t) (by rw [coord_val]; exact h2t) _ _ _ _ _ _ _ _ _ _ _ _ _ _ _ _ _ _ _ _ _ _ _ _ _ _ _ _ _ _ _ _ _ _ (iblk m c 6 t) (iblk m c 7 t) (iblk m c 8 t) (iblk m c 9 t) (feat m c) h1 h2 _)
  isplitl [H6]; · iexact H6
  isplitl [H7]; · iexact H7
  isplitl [H8]; · iexact H8
  isplitl [H9]; · iexact H9
  isplitl [HF]; · iexact HF
  isplitl [HH1]; · iexact HH1
  isplitl [HH2]; · iexact HH2
  iintro ⟨H6, H7, H8, H9, HF, HH1, HH2⟩
  isplitl [HF HH1 HH2 HP]
  · iexists _, _, _; isplitr; · ipureintro; exact ⟨fun _ => rfl, fun y hy => p1 y hy, fun y hy => p2 y hy⟩
    isplitl [HF]; · iexact HF
    isplitl [HH1]; · iexact HH1
    isplitl [HH2]; · iexact HH2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  iexists d13; iexact H13

/-- Point 26 writes the score rows. -/
theorem sound_last (c : Dev nD) (t : Fin cfg0.N) (ht : t.val = 26) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl, phi_eq, phi_eq,
    after0_0, after0_1, after0_2, after0_3, after0_4, after0_5, after0_6, after0_7, after0_8, after0_9, after0_10, after0_11, leaves12_last m c t ht, leaves13_last m c t ht]
  unfold Inv
  iintro ⟨⟨%f, %h1, %h2, %hk, HF, HH1, HH2, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain ⟨hk0, hk1, hk2⟩ := hk
  have hf : f = feat m c := hk0 (show 1 ≤ t.val by omega)
  obtain rfl : h1 = hid1 m c := funext fun y => hk1 y (by have := idx2_lt0 y; show (y 0).val < 400 * (t.val - 1); omega)
  obtain rfl : h2 = hid2 m c := funext fun y => hk2 y (by have := idx2_lt0 y; show (y 0).val < 400 * (t.val - 1); omega)
  iapply (step_last c (grid0.coords t) ((coord_val t).trans ht) _ _ _ _ _ _ _ _ _ _ _ _ _ _ _ _ _ _ _ _ _ _ _ _ _ _ _ _ _ _ _ _ _ _ (iblk m c 10 t) (iblk m c 11 t) (hid1 m c) (hid2 m c) _)
  isplitl [H10]; · iexact H10
  isplitl [H11]; · iexact H11
  isplitl [H12]; · iexists _; iexact H12
  isplitl [H13]; · iexists _; iexact H13
  isplitl [HH1]; · iexact HH1
  isplitl [HH2]; · iexact HH2
  iintro ⟨H10, H11, H12, H13, HH1, HH2⟩
  isplitl [HF HH1 HH2 HP]
  · iexists f, _, _; isplitr; · ipureintro; exact ⟨fun _ => hf, fun _ _ => rfl, fun _ _ => rfl⟩
    isplitl [HF]; · iexact HF
    isplitl [HH1]; · iexact HH1
    isplitl [HH2]; · iexact HH2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 27 := lt_of_lt_of_eq t.isLt N_0
  by_cases h0 : t.val = 0
  · exact sound_first m c t h0
  by_cases h1 : t.val < 26
  · exact sound_rows m c t (by omega) h1
  · exact sound_last m c t (by omega)

/-- The body table's row at point `t` is the body at that point. -/
theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- At the region's entry nothing is known of the scratch buffers, -/
theorem inv_in (c : Dev nD) : (Pipeline.ΦA spec0 c : sProp 𝕄) ⊢ (dats m 0 c).Φ 0 := by
  rw [phi_eq]
  unfold Pipeline.ΦA Inv
  rw [scopedRest0_eq]
  simp only [owns_whole]
  iintro ⟨⟨⟨%f, HF⟩, ⟨%h1, HH1⟩, ⟨%h2, HH2⟩⟩, HP⟩
  iexists f, h1, h2; isplitr
  · ipureintro
    exact ⟨fun h => absurd h (by simp), fun y hy => absurd hy (by simp), fun y hy => absurd hy (by simp)⟩
  isplitl [HF]; · iexact HF
  isplitl [HH1]; · iexact HH1
  isplitl [HH2]; · iexact HH2
  iexact HP

/-- and at its exit what is known is forgotten. -/
theorem inv_out (c : Dev nD) : (dats m 0 c).Φ (Fin.last cfg0.N) ⊢ (Pipeline.ΦA spec0 c : sProp 𝕄) := by
  rw [phi_eq]
  unfold Pipeline.ΦA Inv
  rw [scopedRest0_eq]
  simp only [owns_whole]
  iintro ⟨%f, %h1, %h2, -, HF, HH1, HH2, HP⟩
  isplitr [HP]
  · isplitl [HF]; · iexists f; iexact HF
    isplitl [HH1]; · iexists h1; iexact HH1
    iexists h2; iexact HH2
  iexact HP

-- the launch theorem is matched against this statement up to plain definitions
set_option backward.isDefEq.respectTransparency.types false in
/-- THE LAUNCH: every weakly fair execution of the program ends with every array of the call, and every other unscoped buffer after
    the later host operations, at what the proof data give, and with every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := inv_in m) (hout := inv_out m) (hQ' := fun _ h => h)

/-- THE FRAME, with the counters: the argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.MegaIdeal

end
-- ==== Proof.Value.Spec.lean ====
/-
  The mathematics both programs compute, written once over index functions into the extended reals: a linear layer, the sum over
  neighbours, the parametric rectifier, the mixed hidden rows, the readout of the masked nodes, and the score of a node.
-/
module

public import Idealize.ShloMosaic.Lib.ValueIdx
public import Idealize.ShloMosaic.Lib.ValueLayout
public import Idealize.ShloMosaic.Lib.IdealHost

@[expose] public section

noncomputable section

namespace Cert.Score

open Idealize.ShloMosaic Idealize.ShloMosaic.ValueIdx

/-- The one matrix of a three-axis array as an index function. -/
def mat {a b : ℕ} (x : (⟨3, ![1, a, b]⟩ : Shape).Idx → EReal) : Fin a → Fin b → EReal := fun i j => x (ix3 0 i j)

/-- A two-axis array as an index function. -/
def fn2 {a b : ℕ} (x : (⟨2, ![a, b]⟩ : Shape).Idx → EReal) : Fin a → Fin b → EReal := fun i j => x (ix2 i j)

/-- The one row of a two-axis array as an index function. -/
def row {b : ℕ} (x : (⟨2, ![1, b]⟩ : Shape).Idx → EReal) : Fin b → EReal := fun j => x (ix2 0 j)

/-- A one-axis array as an index function. -/
def vec {a : ℕ} (x : (⟨1, ![a]⟩ : Shape).Idx → EReal) : Fin a → EReal := fun i => x (ix1 i)

/-- The linear layer at node `n`, feature `j`: the node's row times the weights' column, plus the bias. -/
def lin (x : Fin 10000 → Fin 128 → EReal) (W : Fin 128 → Fin 128 → EReal) (b : Fin 128 → EReal) (n : Fin 10000) (j : Fin 128) : EReal :=
  (∑ k, x n k * W k j) + b j

/-- The sum over all nodes, weighted by row `n` of the adjacency array. -/
def agg (A : Fin 10000 → Fin 10000 → EReal) (f : Fin 10000 → Fin 128 → EReal) (n : Fin 10000) (j : Fin 128) : EReal :=
  ∑ k, A n k * f k j

/-- The parametric rectifier: `x` where it exceeds zero, `a * x` elsewhere. -/
def prelu (a x : EReal) : EReal :=
  Scalar.select (FloatOps.cmpf (F := Ideal) (φ := .f32) .ogt x (Ideal.ofBits .f32 0x00000000#32)) x (a * x)

/-- One graph convolution: linear layer, sum over neighbours, rectifier. -/
def conv (A : Fin 10000 → Fin 10000 → EReal) (x : Fin 10000 → Fin 128 → EReal) (W : Fin 128 → Fin 128 → EReal)
    (b : Fin 128 → EReal) (a : EReal) (n : Fin 10000) (j : Fin 128) : EReal :=
  prelu a (agg A (lin x W b) n j)

/-- A hidden row: a convolution of one sequence by the first layer, plus half a convolution of the other by the second. -/
def hidden (A : Fin 10000 → Fin 10000 → EReal) (x y : Fin 10000 → Fin 128 → EReal)
    (W1 : Fin 128 → Fin 128 → EReal) (b1 : Fin 128 → EReal) (a1 : EReal)
    (W2 : Fin 128 → Fin 128 → EReal) (b2 : Fin 128 → EReal) (a2 : EReal) (n : Fin 10000) (j : Fin 128) : EReal :=
  conv A x W1 b1 a1 n j + Ideal.ofBits .f32 0x3F000000#32 * conv A y W2 b2 a2 n j

/-- The readout: the logistic of the masked nodes' mean hidden row. -/
def readout (msk : Fin 10000 → EReal) (h : Fin 10000 → Fin 128 → EReal) (g : Fin 128) : EReal :=
  Ideal.logistic (Ideal.div (∑ n, msk n * h n g) (∑ n, msk n))

/-- The readout through the bilinear weights. -/
def weigh (Wd : Fin 128 → Fin 128 → EReal) (r : Fin 128 → EReal) (f : Fin 128) : EReal := ∑ g, r g * Wd f g

/-- The score of node `n`: its hidden row against the weighed readout. -/
def score (h : Fin 10000 → Fin 128 → EReal) (v : Fin 128 → EReal) (n : Fin 10000) : EReal := ∑ f, v f * h n f

end Cert.Score

end
-- ==== Proof.Value.Payloads.lean ====
/-
  What the kernel's stored values are, element by element, at the extended reals: the four bands of the feature array, the
  400 rows of each hidden array that one grid point computes, and the two score rows.
-/
module

public import proofs.«01_k».proof.Proof.Ideal.Steps
public import proofs.«01_k».proof.Proof.Value.Spec
public import Idealize.ShloMosaic.Lib.MatmulPlain
public import Idealize.ShloMosaic.Lib.Pipeline.Value

@[expose] public section

noncomputable section

namespace Cert.MegaValue

open Cert.KernelIdeal Cert.KernelIdeal.Gen Cert.MegaIdeal Cert.Score
open Idealize.ShloMosaic Idealize.ShloMosaic.ValueIdx

/-- A plain product accumulated into zeros, at an index. -/
theorem mm_apply {M K N : ℕ} {φ₁ φ₂ : FTy} (prec : Option ContractPrecision) (L : FVec Ideal ⟨2, ![M, K]⟩ φ₁)
    (R : FVec Ideal ⟨2, ![K, N]⟩ φ₂) (r : Fin M) (c : Fin N) :
    FloatOps.matmul (DotDims.plain M K N) prec L R (constant ⟨2, ![M, N]⟩ .f32 0x00000000#32) (ix2 r c)
      = ∑ k, L (ix2 r k) * R (ix2 k c) := by
  rw [Ideal.matmul_plain_apply, constant_apply, Ideal.ofBits_zero_f32, zero_add]

/-- A product with the right factor transposed, accumulated into zeros, at an index. -/
theorem mt_apply {M K N : ℕ} {φ₁ φ₂ : FTy} (prec : Option ContractPrecision) (L : FVec Ideal ⟨2, ![M, K]⟩ φ₁)
    (R : FVec Ideal ⟨2, ![N, K]⟩ φ₂) (r : Fin M) (c : Fin N) :
    FloatOps.matmul (DotDims.transposedRhs M K N) prec L R (constant ⟨2, ![M, N]⟩ .f32 0x00000000#32) (ix2 r c)
      = ∑ k, L (ix2 r k) * R (ix2 c k) := by
  rw [Ideal.matmul_transposedRhs_apply, constant_apply, Ideal.ofBits_zero_f32, zero_add]

/-- A band of the feature array: the first sequence through the first layer. -/
theorem pay9_apply (x : Vec Ideal S10000x128 .f32) (W : Vec Ideal S128x128 .f32) (b : Vec Ideal S1x128 .f32) (n : Fin 10000)
    (j : Fin 128) : k0_pay9 x W b (ix2 n j) = lin (fn2 x) (fn2 W) (row b) n j := by
  unfold k0_pay9 k0_pay7
  simp only [shapeCast_self, truncf_apply, addf_apply]
  refine (congrArg₂ (· + ·) (mm_apply none x W n j) (broadcastTo_1b_ab_apply b _ n j)).trans rfl

/-- A band of the feature array: the second sequence through the first layer. -/
theorem pay10_apply (x : Vec Ideal S10000x128 .f32) (W : Vec Ideal S128x128 .f32) (b : Vec Ideal S1x128 .f32) (n : Fin 10000)
    (j : Fin 128) : k0_pay10 x W b (ix2 n j) = lin (fn2 x) (fn2 W) (row b) n j := by
  unfold k0_pay10 k0_pay8
  simp only [shapeCast_self, truncf_apply, addf_apply]
  refine (congrArg₂ (· + ·) (mm_apply none x W n j) (broadcastTo_1b_ab_apply b _ n j)).trans rfl

/-- A band of the feature array: the first sequence through the second layer. -/
theorem pay11_apply (x : Vec Ideal S10000x128 .f32) (W : Vec Ideal S128x128 .f32) (b : Vec Ideal S1x128 .f32) (n : Fin 10000)
    (j : Fin 128) : k0_pay11 x W b (ix2 n j) = lin (fn2 x) (fn2 W) (row b) n j := by
  unfold k0_pay11 k0_pay7
  simp only [shapeCast_self, truncf_apply, addf_apply]
  refine (congrArg₂ (· + ·) (mm_apply none x W n j) (broadcastTo_1b_ab_apply b _ n j)).trans rfl

/-- A band of the feature array: the second sequence through the second layer. -/
theorem pay1_apply (x : Vec Ideal S10000x128 .f32) (W : Vec Ideal S128x128 .f32) (b : Vec Ideal S1x128 .f32) (n : Fin 10000)
    (j : Fin 128) : k0_pay1 (k0_pay8 x) W b (ix2 n j) = lin (fn2 x) (fn2 W) (row b) n j := by
  unfold k0_pay1 k0_pay8
  simp only [shapeCast_self, truncf_apply, addf_apply]
  refine (congrArg₂ (· + ·) (mm_apply none x W n j) (broadcastTo_1b_ab_apply b _ n j)).trans rfl

/-- The feature array by column: column `j` of the first band, -/
theorem feat_band0 (s1 s2 : Vec Ideal S10000x128 .f32) (w1 w2 : Vec Ideal S128x128 .f32) (b1 b2 : Vec Ideal S1x128 .f32)
    (n : Fin 10000) (j : Fin 128) (q : Fin 512) (hq : q.val = 0 + j.val) :
    featArr s1 s2 w1 w2 b1 b2 (ix2 n q) = lin (fn2 s1) (fn2 w1) (row b1) n j := by
  rw [← pay9_apply]
  unfold featArr bands
  have e : ((ix2 n q : (⟨2, ![10000, 512]⟩ : Shape).Idx) 1).val = q.val := rfl
  have hj := j.isLt
  rw [dif_pos (by omega)]
  exact congrArg (fun z : Fin 128 => k0_pay9 s1 w1 b1 (ix2 n z)) (Fin.ext (by show q.val = j.val; omega))

/-- of the second, -/
theorem feat_band1 (s1 s2 : Vec Ideal S10000x128 .f32) (w1 w2 : Vec Ideal S128x128 .f32) (b1 b2 : Vec Ideal S1x128 .f32)
    (n : Fin 10000) (j : Fin 128) (q : Fin 512) (hq : q.val = 128 + j.val) :
    featArr s1 s2 w1 w2 b1 b2 (ix2 n q) = lin (fn2 s2) (fn2 w1) (row b1) n j := by
  rw [← pay10_apply]
  unfold featArr bands
  have e : ((ix2 n q : (⟨2, ![10000, 512]⟩ : Shape).Idx) 1).val = q.val := rfl
  have hj := j.isLt
  rw [dif_neg (by omega), dif_pos (by omega)]
  exact congrArg (fun z : Fin 128 => k0_pay10 s2 w1 b1 (ix2 n z)) (Fin.ext (by show q.val - 128 = j.val; omega))

/-- of the third, -/
theorem feat_band2 (s1 s2 : Vec Ideal S10000x128 .f32) (w1 w2 : Vec Ideal S128x128 .f32) (b1 b2 : Vec Ideal S1x128 .f32)
    (n : Fin 10000) (j : Fin 128) (q : Fin 512) (hq : q.val = 256 + j.val) :
    featArr s1 s2 w1 w2 b1 b2 (ix2 n q) = lin (fn2 s1) (fn2 w2) (row b2) n j := by
  rw [← pay11_apply]
  unfold featArr bands
  have e : ((ix2 n q : (⟨2, ![10000, 512]⟩ : Shape).Idx) 1).val = q.val := rfl
  have hj := j.isLt
  rw [dif_neg (by omega), dif_neg (by omega), dif_pos (by omega)]
  exact congrArg (fun z : Fin 128 => k0_pay11 s1 w2 b2 (ix2 n z)) (Fin.ext (by show q.val - 256 = j.val; omega))

/-- and of the fourth. -/
theorem feat_band3 (s1 s2 : Vec Ideal S10000x128 .f32) (w1 w2 : Vec Ideal S128x128 .f32) (b1 b2 : Vec Ideal S1x128 .f32)
    (n : Fin 10000) (j : Fin 128) (q : Fin 512) (hq : q.val = 384 + j.val) :
    featArr s1 s2 w1 w2 b1 b2 (ix2 n q) = lin (fn2 s2) (fn2 w2) (row b2) n j := by
  rw [← pay1_apply]
  unfold featArr bands
  have e : ((ix2 n q : (⟨2, ![10000, 512]⟩ : Shape).Idx) 1).val = q.val := rfl
  have hj := j.isLt
  rw [dif_neg (by omega), dif_neg (by omega), dif_neg (by omega)]
  exact congrArg (fun z : Fin 128 => k0_pay1 (k0_pay8 s2) w2 b2 (ix2 n z)) (Fin.ext (by show q.val - 384 = j.val; omega))

/-- Two blocks of 200 rows, one above the other. -/
def cat2 (a b : Vec Ideal S200x10000 .f32) (r : Fin 400) (k : Fin 10000) : EReal :=
  if h : r.val < 200 then a (ix2 ⟨r.val, h⟩ k) else b (ix2 ⟨r.val - 200, by omega⟩ k)

/-- The concatenation of two row blocks reads the one or the other. -/
theorem cat2_apply (a b : Vec Ideal S200x10000 .f32) (r : Fin 400) (k : Fin 10000) :
    concatenate S400x10000 0 [⟨S200x10000, a⟩, ⟨S200x10000, b⟩] concatenates_S200x10000_S200x10000_S400x10000_d0 (ix2 r k)
      = cat2 a b r k := by
  unfold cat2
  split
  · rename_i h
    refine concatenate_pair_apply_left (t := S400x10000) (s₁ := S200x10000) (s₂ := S200x10000) 0 a b _ (ix2 r k) rfl (ix2 ⟨r.val, h⟩ k) fun x => ?_
    match x with
    | ⟨0, _⟩ => rfl
    | ⟨1, _⟩ => rfl
  · rename_i h
    refine concatenate_pair_apply_right (t := S400x10000) (s₁ := S200x10000) (s₂ := S200x10000) 0 a b _ (ix2 r k) rfl rfl (ix2 ⟨r.val - 200, by omega⟩ k) (fun x hx => ?_) ?_
    · match x with
      | ⟨0, _⟩ => exact absurd rfl hx
      | ⟨1, _⟩ => rfl
    · show r.val - 200 + 200 = r.val
      omega

/-- The block's 400 rows of the adjacency array times the feature array. -/
theorem pay12_apply (a b : Vec Ideal S200x10000 .f32) (f : Vec Ideal S10000x512 .bf16) (r : Fin 400) (q : Fin 512) :
    k0_pay12 a b f (ix2 r q) = ∑ k, cat2 a b r k * f (ix2 k q) := by
  unfold k0_pay12
  refine (mm_apply (φ₁ := .bf16) (φ₂ := .bf16) none _ f r q).trans (Finset.sum_congr rfl fun k _ => congrArg (· * _) ?_)
  refine (cat2_apply _ _ r k).trans ?_
  rw [shapeCast_self, shapeCast_self]

/-- One rectified band of the block, read at an index. -/
theorem band_apply (P : FVec Ideal S400x512 .f32) (o : ℕ) (h : (⟨2, ![400, 512]⟩ : Shape).Slices ![0, o] ⟨2, ![400, 128]⟩)
    (av : Vec Ideal S1x128 .f32) (r : Fin 400) (j : Fin 128) (q : Fin 512) (hq : q.val = o + j.val) :
    (select (cmpf .ogt (extractStridedSlice S400x128 ![0, o] P h) (broadcast S400x128 (Scalar.ofBits (F := Ideal) .f32 0x00000000#32)))
      (extractStridedSlice S400x128 ![0, o] P h)
      (mulf (broadcastTo S400x128 av broadcasts_S1x128_S400x128) (extractStridedSlice S400x128 ![0, o] P h)) : FVec Ideal S400x128 .f32) (ix2 r j)
      = prelu (row av j) (P (ix2 r q)) := by
  have e : extractStridedSlice S400x128 ![0, o] P h (ix2 r j) = P (ix2 r q) := slice2_axis1_apply o P h r j q hq
  have e2 : broadcastTo S400x128 av broadcasts_S1x128_S400x128 (ix2 r j) = row av j := broadcastTo_1b_ab_apply av _ r j
  rw [select_apply, cmpf_apply, mulf_apply, e, e2, broadcast_apply]
  rfl

/-- The block's rows of the first hidden array: the first band rectified plus half the fourth. -/
theorem pay15_apply (a b : Vec Ideal S200x10000 .f32) (f : Vec Ideal S10000x512 .bf16) (av1 av2 : Vec Ideal S1x128 .f32)
    (r : Fin 400) (j : Fin 128) (q q' : Fin 512) (hq : q.val = 0 + j.val) (hq' : q'.val = 384 + j.val) :
    k0_pay2 (k0_pay15 a b f av1 av2) (ix2 r j)
      = prelu (row av1 j) (∑ k, cat2 a b r k * f (ix2 k q))
        + Ideal.ofBits .f32 0x3F000000#32 * prelu (row av2 j) (∑ k, cat2 a b r k * f (ix2 k q')) := by
  unfold k0_pay2 k0_pay15 k0_pay13 k0_pay14
  simp only [shapeCast_self, truncf_apply, addf_apply]
  rw [mulf_apply, band_apply _ 0 _ av1 r j q hq, band_apply _ 384 _ av2 r j q' hq', pay12_apply, pay12_apply]
  rfl

/-- The block's rows of the second: the second band rectified plus half the third. -/
theorem pay16_apply (a b : Vec Ideal S200x10000 .f32) (f : Vec Ideal S10000x512 .bf16) (av1 av2 : Vec Ideal S1x128 .f32)
    (r : Fin 400) (j : Fin 128) (q q' : Fin 512) (hq : q.val = 128 + j.val) (hq' : q'.val = 256 + j.val) :
    k0_pay3 (k0_pay16 a b f av1 av2) (ix2 r j)
      = prelu (row av1 j) (∑ k, cat2 a b r k * f (ix2 k q))
        + Ideal.ofBits .f32 0x3F000000#32 * prelu (row av2 j) (∑ k, cat2 a b r k * f (ix2 k q')) := by
  unfold k0_pay3 k0_pay16 k0_pay13 k0_pay14
  simp only [shapeCast_self, truncf_apply, addf_apply]
  rw [mulf_apply, band_apply _ 128 _ av1 r j q hq, band_apply _ 256 _ av2 r j q' hq', pay12_apply, pay12_apply]
  rfl

/-- The total of the mask, as the kernel sums it. -/
theorem total_apply (msk : Vec Ideal S1x10000 .f32) (j : S1.Idx) :
    multiReduction .add [1, 2] S1 (shapeCast S1x1x10000 msk shapeCasts_S1x10000_S1x1x10000 : FVec Ideal S1x1x10000 .f32) 0x00000000#32
      reduces_S1x1x10000_S1 (.inl rfl) rfl j = ∑ n, row msk n := by
  refine (Ideal.multiReduction_add_total _ _ _ (by decide) _ _ j).trans ?_
  rw [show (∑ i : S1x1x10000.Idx, shapeCast S1x1x10000 msk shapeCasts_S1x10000_S1x1x10000 i) = ∑ i : S1x10000.Idx, msk i from
    Equiv.sum_comp (Shape.reshapeEquiv _) msk, sum_idx2]
  exact (Fin.sum_univ_one _)

/-- The same, as the kernel takes it out of its one-element array. -/
theorem extract_apply (msk : Vec Ideal S1x10000 .f32) :
    extractAt ![0, 0, 0] (shapeCast S1x1x1 (multiReduction .add [1, 2] S1
      (shapeCast S1x1x10000 msk shapeCasts_S1x10000_S1x1x10000 : FVec Ideal S1x1x10000 .f32) 0x00000000#32
      reduces_S1x1x10000_S1 (.inl rfl) rfl) shapeCasts_S1_S1x1x1) inpos_S1x1x1_p0_0_0 = ∑ n, row msk n := by
  unfold extractAt shapeCast
  exact total_apply msk _

/-- The logistic of an array, at an index. -/
theorem logistic_at {s : Shape} (x : FVec Ideal s .f32) (i : s.Idx) : logistic x i = Ideal.logistic (x i) := rfl

/-- The readout of the first hidden array through the bilinear weights. -/
theorem pay4_apply (msk : Vec Ideal S1x10000 .f32) (h : Vec Ideal S10000x128 .bf16) (Wd : Vec Ideal S128x128 .f32) (f : Fin 128) :
    k0_pay4 msk h msk Wd (ix2 0 f) = weigh (fn2 Wd) (readout (row msk) (fn2 h)) f := by
  unfold k0_pay4
  simp only [truncf_apply]
  refine (mt_apply (φ₁ := .f32) (φ₂ := .f32) none _ Wd 0 f).trans ?_
  unfold weigh
  refine Finset.sum_congr rfl fun g _ => congrArg (fun z : EReal => z * Wd (ix2 f g)) ?_
  unfold readout
  rw [logistic_at, divf_apply, broadcast_apply, extract_apply]
  refine congrArg (fun z : EReal => Ideal.logistic (Ideal.div z (∑ n, row msk n))) ?_
  refine (mm_apply (φ₁ := .bf16) (φ₂ := .bf16) none _ h 0 g).trans rfl

/-- The first score row, -/
theorem pay5_apply (msk : Vec Ideal S1x10000 .f32) (h h' : Vec Ideal S10000x128 .bf16) (Wd : Vec Ideal S128x128 .f32) (n : Fin 10000) :
    k0_pay5 msk h msk Wd h' (ix2 0 n) = score (fn2 h') (weigh (fn2 Wd) (readout (row msk) (fn2 h))) n := by
  unfold k0_pay5
  refine (mt_apply (φ₁ := .bf16) (φ₂ := .bf16) none _ h' 0 n).trans ?_
  unfold score
  exact Finset.sum_congr rfl fun f _ => congrArg (fun z : EReal => z * h' (ix2 n f)) (pay4_apply msk h Wd f)

/-- and the second. -/
theorem pay6_apply (msk : Vec Ideal S1x10000 .f32) (h h' : Vec Ideal S10000x128 .bf16) (Wd : Vec Ideal S128x128 .f32) (n : Fin 10000) :
    k0_pay6 msk h msk Wd h' (ix2 0 n) = score (fn2 h') (weigh (fn2 Wd) (readout (row msk) (fn2 h))) n := by
  unfold k0_pay6
  refine (mt_apply (φ₁ := .bf16) (φ₂ := .bf16) none _ h' 0 n).trans ?_
  unfold score
  exact Finset.sum_congr rfl fun f _ => congrArg (fun z : EReal => z * h' (ix2 n f)) (pay4_apply msk h Wd f)

end Cert.MegaValue

end
-- ==== Proof.Value.Blocks.lean ====
/-
  What the Pallas call finds: the arrays of its windows when it starts, in terms of the arguments, and the blocks of those arrays
  that each grid point is given.
-/
module

public import proofs.«01_k».proof.Proof.Ideal.Run
public import proofs.«01_k».proof.Proof.Value.Payloads
public import Idealize.ShloMosaic.Lib.Pipeline.ValueKit.Geometry

@[expose] public section

set_option maxRecDepth 16384

noncomputable section

namespace Cert.MegaValue

open Cert.KernelIdeal Cert.KernelIdeal.Gen Cert.MegaIdeal Cert.Score
open Idealize.ShloMosaic Idealize.ShloMosaic.TcCoe Idealize.SL.Sem
open Idealize.ShloMosaic.ValueIdx

variable (m : (ℓ : Loc nD τ sig) → Buf (Elt Ideal) ℓ) (c : Dev nD)

/-! ## The arrays at the start of the call -/

/-- The first sequence without its leading axis, -/
theorem V_seq1 : V m c main_v0 = shapeCast S10000x128 (m ((c : Thread nD τ).loc main_arg0)) shapeCasts_S1x10000x128_S10000x128 := by
  entry_read
  rfl

/-- and the second; -/
theorem V_seq2 : V m c main_v1 = shapeCast S10000x128 (m ((c : Thread nD τ).loc main_arg1)) shapeCasts_S1x10000x128_S10000x128 := by
  entry_read
  rfl

/-- the adjacency array without its leading axis; -/
theorem V_adj : V m c main_v2 = shapeCast S10000x10000 (m ((c : Thread nD τ).loc main_arg2)) shapeCasts_S1x10000x10000_S10000x10000 := by
  entry_read
  rfl

/-- the first rectifier's slope along a row, -/
theorem V_slope1 : V m c main_v3 = broadcastInDim S1x128 ![] bcast_S_S1x128 (m ((c : Thread nD τ).loc main_arg10)) := by
  entry_read
  rfl

/-- and the second's; -/
theorem V_slope2 : V m c main_v4 = broadcastInDim S1x128 ![] bcast_S_S1x128 (m ((c : Thread nD τ).loc main_arg13)) := by
  entry_read
  rfl

/-- the first layer's bias as a row, -/
theorem V_bias1 : V m c main_v5 = shapeCast S1x128 (m ((c : Thread nD τ).loc main_arg9)) shapeCasts_S128_S1x128 := by
  entry_read
  rfl

/-- and the second's. -/
theorem V_bias2 : V m c main_v6 = shapeCast S1x128 (m ((c : Thread nD τ).loc main_arg12)) shapeCasts_S128_S1x128 := by
  entry_read
  rfl

/-! ## The windows' block numbers -/

/-- Every window but the adjacency's two has one block, at the origin, whatever the point. -/
theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel

/-- The adjacency's two windows are at rows `2(t-1)` and `2(t-1)+1`, in units of 200, at points 1 to 25. -/
theorem idx6 : ∀ t : Fin cfg0.N, 1 ≤ t.val → t.val ≤ 25 → win0_6.index t = ![2 * (t.val - 1), 0] := by decide +kernel
theorem idx7 : ∀ t : Fin cfg0.N, 1 ≤ t.val → t.val ≤ 25 → win0_7.index t = ![2 * (t.val - 1) + 1, 0] := by decide +kernel

/-! ## The blocks as index functions of the arguments -/

/-- Window 0 is the first sequence. -/
theorem blk0_eq (t : Fin cfg0.N) : fn2 (iblk m c 0 t) = mat (m ((c : Thread nD τ).loc main_arg0)) := by
  have e : iblk m c 0 t = V m c main_v0 := by
    funext y
    blk_ext [iblk, idx0 t]
  rw [e]
  rw [V_seq1]
  funext n j
  exact shapeCast_1ab_ab_apply _ _ n j

/-- Window 1 is the second sequence. -/
theorem blk1_eq (t : Fin cfg0.N) : fn2 (iblk m c 1 t) = mat (m ((c : Thread nD τ).loc main_arg1)) := by
  have e : iblk m c 1 t = V m c main_v1 := by
    funext y
    blk_ext [iblk, idx1 t]
  rw [e]
  rw [V_seq2]
  funext n j
  exact shapeCast_1ab_ab_apply _ _ n j

/-- Window 2 is the first layer's weights. -/
theorem blk2_eq (t : Fin cfg0.N) : fn2 (iblk m c 2 t) = fn2 (m ((c : Thread nD τ).loc main_arg8)) := by
  have e : iblk m c 2 t = V m c main_arg8 := by
    funext y
    blk_ext [iblk, idx2 t]
  rw [e]
  rw [V_main_arg8]

/-- Window 3 is the second layer's weights. -/
theorem blk3_eq (t : Fin cfg0.N) : fn2 (iblk m c 3 t) = fn2 (m ((c : Thread nD τ).loc main_arg11)) := by
  have e : iblk m c 3 t = V m c main_arg11 := by
    funext y
    blk_ext [iblk, idx3 t]
  rw [e]
  rw [V_main_arg11]

/-- Window 4 is the first layer's bias. -/
theorem blk4_eq (t : Fin cfg0.N) : row (iblk m c 4 t) = vec (m ((c : Thread nD τ).loc main_arg9)) := by
  have e : iblk m c 4 t = V m c main_v5 := by
    funext y
    blk_ext [iblk, idx4 t]
  rw [e]
  rw [V_bias1]
  funext j
  exact shapeCast_a_1a_apply _ _ 0 j

/-- Window 5 is the second layer's bias. -/
theorem blk5_eq (t : Fin cfg0.N) : row (iblk m c 5 t) = vec (m ((c : Thread nD τ).loc main_arg12)) := by
  have e : iblk m c 5 t = V m c main_v6 := by
    funext y
    blk_ext [iblk, idx5 t]
  rw [e]
  rw [V_bias2]
  funext j
  exact shapeCast_a_1a_apply _ _ 0 j

/-- Window 8 is the first rectifier's slope. -/
theorem blk8_eq (t : Fin cfg0.N) : row (iblk m c 8 t) = fun _ => (m ((c : Thread nD τ).loc main_arg10)) ix0 := by
  have e : iblk m c 8 t = V m c main_v3 := by
    funext y
    blk_ext [iblk, idx8 t]
  rw [e]
  rw [V_slope1]
  funext j
  exact broadcastInDim_scalar_apply _ _ _

/-- Window 9 is the second rectifier's slope. -/
theorem blk9_eq (t : Fin cfg0.N) : row (iblk m c 9 t) = fun _ => (m ((c : Thread nD τ).loc main_arg13)) ix0 := by
  have e : iblk m c 9 t = V m c main_v4 := by
    funext y
    blk_ext [iblk, idx9 t]
  rw [e]
  rw [V_slope2]
  funext j
  exact broadcastInDim_scalar_apply _ _ _

/-- Window 10 is the mask. -/
theorem blk10_eq (t : Fin cfg0.N) : row (iblk m c 10 t) = row (m ((c : Thread nD τ).loc main_arg5)) := by
  have e : iblk m c 10 t = V m c main_arg5 := by
    funext y
    blk_ext [iblk, idx10 t]
  rw [e]
  rw [V_main_arg5]

/-- Window 11 is the bilinear weights. -/
theorem blk11_eq (t : Fin cfg0.N) : fn2 (iblk m c 11 t) = fn2 (m ((c : Thread nD τ).loc main_arg14)) := by
  have e : iblk m c 11 t = V m c main_arg14 := by
    funext y
    blk_ext [iblk, idx11 t]
  rw [e]
  rw [V_main_arg14]

/-- At points 1 to 25 the adjacency's first window holds 200 rows from row `400(t-1)`. -/
theorem blk6_eq (t : Fin cfg0.N) (h1 : 1 ≤ t.val) (h2 : t.val ≤ 25) (r : Fin 200) (k n : Fin 10000)
    (hn : n.val = 400 * (t.val - 1) + r.val) : iblk m c 6 t (ix2 r k) = mat (m ((c : Thread nD τ).loc main_arg2)) n k := by
  have e : iblk m c 6 t (ix2 r k) = V m c main_v2 (ix2 n k) := by
    blk_ext [iblk, idx6 t h1 h2]
    rw [show ((ix2 r k 0 : Fin 200) : ℕ) = r.val from rfl, show ((ix2 n k 0 : Fin 10000) : ℕ) = n.val from rfl]
    omega
  rw [e, V_adj]
  exact shapeCast_1ab_ab_apply _ _ n k

/-- At points 1 to 25 the adjacency's second window holds 200 rows from row `400(t-1) + 200`. -/
theorem blk7_eq (t : Fin cfg0.N) (h1 : 1 ≤ t.val) (h2 : t.val ≤ 25) (r : Fin 200) (k n : Fin 10000)
    (hn : n.val = 400 * (t.val - 1) + 200 + r.val) : iblk m c 7 t (ix2 r k) = mat (m ((c : Thread nD τ).loc main_arg2)) n k := by
  have e : iblk m c 7 t (ix2 r k) = V m c main_v2 (ix2 n k) := by
    blk_ext [iblk, idx7 t h1 h2]
    rw [show ((ix2 r k 0 : Fin 200) : ℕ) = r.val from rfl, show ((ix2 n k 0 : Fin 10000) : ℕ) = n.val from rfl]
    omega
  rw [e, V_adj]
  exact shapeCast_1ab_ab_apply _ _ n k

end Cert.MegaValue

end
-- ==== Proof.Value.Hidden.lean ====
/-
  The hidden arrays and the score rows of the kernel as index functions of the arguments.
-/
module

public import proofs.«01_k».proof.Proof.Value.Blocks

@[expose] public section

noncomputable section

namespace Cert.MegaValue

open Cert.KernelIdeal Cert.KernelIdeal.Gen Cert.MegaIdeal Cert.Score
open Idealize.ShloMosaic Idealize.ShloMosaic.TcCoe Idealize.SL.Sem
open Idealize.ShloMosaic.ValueIdx

variable (m : (ℓ : Loc nD τ sig) → Buf (Elt Ideal) ℓ) (c : Dev nD)

/-- The first hidden array that the arguments call for, -/
def specH1 : Fin 10000 → Fin 128 → EReal :=
  Score.hidden (mat (m ((c : Thread nD τ).loc main_arg2))) (mat (m ((c : Thread nD τ).loc main_arg0))) (mat (m ((c : Thread nD τ).loc main_arg1)))
    (fn2 (m ((c : Thread nD τ).loc main_arg8))) (vec (m ((c : Thread nD τ).loc main_arg9))) ((m ((c : Thread nD τ).loc main_arg10)) ix0)
    (fn2 (m ((c : Thread nD τ).loc main_arg11))) (vec (m ((c : Thread nD τ).loc main_arg12))) ((m ((c : Thread nD τ).loc main_arg13)) ix0)

/-- and the second: the sequences exchanged. -/
def specH2 : Fin 10000 → Fin 128 → EReal :=
  Score.hidden (mat (m ((c : Thread nD τ).loc main_arg2))) (mat (m ((c : Thread nD τ).loc main_arg1))) (mat (m ((c : Thread nD τ).loc main_arg0)))
    (fn2 (m ((c : Thread nD τ).loc main_arg8))) (vec (m ((c : Thread nD τ).loc main_arg9))) ((m ((c : Thread nD τ).loc main_arg10)) ix0)
    (fn2 (m ((c : Thread nD τ).loc main_arg11))) (vec (m ((c : Thread nD τ).loc main_arg12))) ((m ((c : Thread nD τ).loc main_arg13)) ix0)

/-- The weighed readout that the arguments call for. -/
def specV : Fin 128 → EReal :=
  weigh (fn2 (m ((c : Thread nD τ).loc main_arg14))) (readout (row (m ((c : Thread nD τ).loc main_arg5))) (specH1 m c))

/-- The two blocks of the adjacency at point `t` are its rows `400(t-1)` to `400(t-1)+399`. -/
theorem adj_rows (t : Fin cfg0.N) (h1 : 1 ≤ t.val) (h2 : t.val ≤ 25) (r : Fin 400) (n k : Fin 10000)
    (hn : n.val = 400 * (t.val - 1) + r.val) :
    cat2 (iblk m c 6 t) (iblk m c 7 t) r k = mat (m ((c : Thread nD τ).loc main_arg2)) n k := by
  unfold cat2
  split
  · exact blk6_eq m c t h1 h2 _ k n hn
  · exact blk7_eq m c t h1 h2 _ k n (by show n.val = 400 * (t.val - 1) + 200 + (r.val - 200); omega)

/-! The four bands of the feature array. -/

theorem feat0 (k : Fin 10000) (j : Fin 128) (q : Fin 512) (hq : q.val = 0 + j.val) :
    feat m c (ix2 k q) = lin (mat (m ((c : Thread nD τ).loc main_arg0))) (fn2 (m ((c : Thread nD τ).loc main_arg8))) (vec (m ((c : Thread nD τ).loc main_arg9))) k j := by
  unfold feat
  rw [feat_band0 _ _ _ _ _ _ k j q hq, blk0_eq, blk2_eq, blk4_eq]

theorem feat1 (k : Fin 10000) (j : Fin 128) (q : Fin 512) (hq : q.val = 128 + j.val) :
    feat m c (ix2 k q) = lin (mat (m ((c : Thread nD τ).loc main_arg1))) (fn2 (m ((c : Thread nD τ).loc main_arg8))) (vec (m ((c : Thread nD τ).loc main_arg9))) k j := by
  unfold feat
  rw [feat_band1 _ _ _ _ _ _ k j q hq, blk1_eq, blk2_eq, blk4_eq]

theorem feat2 (k : Fin 10000) (j : Fin 128) (q : Fin 512) (hq : q.val = 256 + j.val) :
    feat m c (ix2 k q) = lin (mat (m ((c : Thread nD τ).loc main_arg0))) (fn2 (m ((c : Thread nD τ).loc main_arg11))) (vec (m ((c : Thread nD τ).loc main_arg12))) k j := by
  unfold feat
  rw [feat_band2 _ _ _ _ _ _ k j q hq, blk0_eq, blk3_eq, blk5_eq]

theorem feat3 (k : Fin 10000) (j : Fin 128) (q : Fin 512) (hq : q.val = 384 + j.val) :
    feat m c (ix2 k q) = lin (mat (m ((c : Thread nD τ).loc main_arg1))) (fn2 (m ((c : Thread nD τ).loc main_arg11))) (vec (m ((c : Thread nD τ).loc main_arg12))) k j := by
  unfold feat
  rw [feat_band3 _ _ _ _ _ _ k j q hq, blk1_eq, blk3_eq, blk5_eq]

/-- The first hidden array is the one called for. -/
theorem hid1_eq : fn2 (hid1 m c) = specH1 m c := by
  funext n j
  have hN : cfg0.N = 27 := N_0
  have hn := n.isLt
  have hj := j.isLt
  have ht : (rowPt (ix2 n j)).val = n.val / 400 + 1 := rfl
  have e : ∀ k, cat2 (iblk m c 6 (rowPt (ix2 n j))) (iblk m c 7 (rowPt (ix2 n j))) ⟨n.val % 400, Nat.mod_lt _ (by norm_num)⟩ k
      = mat (m ((c : Thread nD τ).loc main_arg2)) n k := fun k =>
    adj_rows m c _ (by omega) (by omega) _ n k (by rw [ht]; show n.val = 400 * (n.val / 400 + 1 - 1) + n.val % 400; omega)
  show rows1 m c (rowPt (ix2 n j)) (ix2 ⟨n.val % 400, Nat.mod_lt _ (by norm_num)⟩ j) = _
  unfold rows1
  rw [pay15_apply _ _ _ _ _ _ j ⟨0 + j.val, by omega⟩ ⟨384 + j.val, by omega⟩ rfl rfl, blk8_eq, blk9_eq]
  unfold specH1 Score.hidden conv agg
  simp only [e, feat0 m c _ j ⟨0 + j.val, by omega⟩ rfl, feat3 m c _ j ⟨384 + j.val, by omega⟩ rfl]

/-- The second hidden array is the one called for. -/
theorem hid2_eq : fn2 (hid2 m c) = specH2 m c := by
  funext n j
  have hN : cfg0.N = 27 := N_0
  have hn := n.isLt
  have hj := j.isLt
  have ht : (rowPt (ix2 n j)).val = n.val / 400 + 1 := rfl
  have e : ∀ k, cat2 (iblk m c 6 (rowPt (ix2 n j))) (iblk m c 7 (rowPt (ix2 n j))) ⟨n.val % 400, Nat.mod_lt _ (by norm_num)⟩ k
      = mat (m ((c : Thread nD τ).loc main_arg2)) n k := fun k =>
    adj_rows m c _ (by omega) (by omega) _ n k (by rw [ht]; show n.val = 400 * (n.val / 400 + 1 - 1) + n.val % 400; omega)
  show rows2 m c (rowPt (ix2 n j)) (ix2 ⟨n.val % 400, Nat.mod_lt _ (by norm_num)⟩ j) = _
  unfold rows2
  rw [pay16_apply _ _ _ _ _ _ j ⟨128 + j.val, by omega⟩ ⟨256 + j.val, by omega⟩ rfl rfl, blk8_eq, blk9_eq]
  unfold specH2 Score.hidden conv agg
  simp only [e, feat1 m c _ j ⟨128 + j.val, by omega⟩ rfl, feat2 m c _ j ⟨256 + j.val, by omega⟩ rfl]

/-- The first score row, whatever the point, is the one called for. -/
theorem score1_eq (t : Fin cfg0.N) (n : Fin 10000) : score1 m c t (ix2 0 n) = score (specH1 m c) (specV m c) n := by
  unfold score1 specV
  rw [pay5_apply, hid1_eq, blk10_eq, blk11_eq]

/-- The second score row, whatever the point, is the one called for. -/
theorem score2_eq (t : Fin cfg0.N) (n : Fin 10000) : score2 m c t (ix2 0 n) = score (specH2 m c) (specV m c) n := by
  unfold score2 specV
  rw [pay6_apply, hid1_eq, hid2_eq, blk10_eq, blk11_eq]

end Cert.MegaValue

end
-- ==== Proof.Value.Tail.lean ====
/-
  What the kernel's result array holds after the run: the Pallas call leaves the two score rows, and the host operations after it
  add the biases and put the rows side by side.
-/
module

public import proofs.«01_k».proof.Proof.Value.Hidden

@[expose] public section

set_option maxRecDepth 16384

noncomputable section

namespace Cert.MegaValue

open Cert.KernelIdeal Cert.KernelIdeal.Gen Cert.MegaIdeal Cert.Score
open Idealize.ShloMosaic Idealize.ShloMosaic.TcCoe Idealize.ShloMosaic.Tactic Idealize.SL.Sem
open Idealize.ShloMosaic.ValueIdx

variable (m : (ℓ : Loc nD τ sig) → Buf (Elt Ideal) ℓ) (c : Dev nD)

/-- The last grid point, which writes the score rows. -/
def ptLast : Fin cfg0.N := ⟨26, by decide⟩

/-- The first output array ends at the first score row, -/
theorem arr12 : (dats m 0 c).arrAt 12 cfg0.N = score1 m c ptLast := by
  refine (dats m 0 c).arrAt_eq_of_after_last 12 ptLast (by decide +kernel) _ fun j => ?_
  rw [after0_12]
  rfl

/-- and the second at the second. -/
theorem arr13 : (dats m 0 c).arrAt 13 cfg0.N = score2 m c ptLast := by
  refine (dats m 0 c).arrAt_eq_of_after_last 13 ptLast (by decide +kernel) _ fun j => ?_
  rw [after0_13]
  rfl

/-- A score row with the sampled bias and the bias added, as the host adds them. -/
def biased (o : FVec Ideal S1x10000 .f32) (sb : FVec Ideal S1x10000 .f32) (bd : FVec Ideal S1 .f32) : FVec Ideal S1x10000 .f32 :=
  addf (addf o sb) (broadcastInDim S1x10000 ![] bcast_S_S1x10000 (shapeCast S_ bd shapeCasts_S1_S_))

/-- The result array. -/
def result : FVec Ideal S1x20000 .f32 :=
  concatenate S1x20000 1
    [⟨S1x10000, biased (score1 m c ptLast) (m ((c : Thread nD τ).loc main_arg6)) (m ((c : Thread nD τ).loc main_arg15))⟩,
     ⟨S1x10000, biased (score2 m c ptLast) (m ((c : Thread nD τ).loc main_arg7)) (m ((c : Thread nD τ).loc main_arg15))⟩]
    concatenates_S1x10000_S1x10000_S1x20000_d1

/-- The host operations after the call, from any contents. -/
theorem after_tail (σ : Valuation τ sig (Elt Ideal)) :
    StableHlo.after hostOps1 σ (Proc.devRef .tc main_v16)
      = concatenate S1x20000 1
          [⟨S1x10000, biased (σ (Proc.devRef .tc main_v7_0)) (σ (Proc.devRef .tc main_arg6)) (σ (Proc.devRef .tc main_arg15))⟩,
           ⟨S1x10000, biased (σ (Proc.devRef .tc main_v7_1)) (σ (Proc.devRef .tc main_arg7)) (σ (Proc.devRef .tc main_arg15))⟩]
          concatenates_S1x10000_S1x10000_S1x20000_d1 := by
  after_results
  rfl

/-- The result buffer ends at the result array. -/
theorem W_result : Pipeline.afterTail₀ cfgs (dats m) 0 (V0 m) [hostOps1] c main_v16 = result m c := by
  have e0 := (dats m 0 c).withArrays_arrAt sharedIn0 (V0 m c) (A_eq m c) 12
  have e1 := (dats m 0 c).withArrays_arrAt sharedIn0 (V0 m c) (A_eq m c) 13
  have e6 := Pipeline.withArrays_of_ne spec0 c (V0 m c) (fun w => (dats m 0 c).arrAt w cfg0.N) main_arg6 (by decide)
  have e7 := Pipeline.withArrays_of_ne spec0 c (V0 m c) (fun w => (dats m 0 c).arrAt w cfg0.N) main_arg7 (by decide)
  have e15 := Pipeline.withArrays_of_ne spec0 c (V0 m c) (fun w => (dats m 0 c).arrAt w cfg0.N) main_arg15 (by decide)
  refine (after_tail _).trans ?_
  unfold result
  refine congrArg₂ (fun a b => concatenate S1x20000 1 [⟨S1x10000, a⟩, ⟨S1x10000, b⟩] concatenates_S1x10000_S1x10000_S1x20000_d1) ?_ ?_
  · refine congr (congrArg₂ biased (e0.trans (arr12 m c)) (e6.trans (V_main_arg6 m c))) (e15.trans (V_main_arg15 m c))
  · refine congr (congrArg₂ biased (e1.trans (arr13 m c)) (e7.trans (V_main_arg7 m c))) (e15.trans (V_main_arg15 m c))

/-- A biased score row at a node. -/
theorem biased_apply (o sb : FVec Ideal S1x10000 .f32) (bd : FVec Ideal S1 .f32) (n : Fin 10000) :
    biased o sb bd (ix2 0 n) = o (ix2 0 n) + sb (ix2 0 n) + bd (ix1 0) := by
  unfold biased
  rw [addf_apply, addf_apply, broadcastInDim_scalar_apply]
  refine congrArg (fun z : EReal => o (ix2 0 n) + sb (ix2 0 n) + z) ?_
  unfold shapeCast
  refine congrArg bd ?_
  funext a
  match a with
  | ⟨0, _⟩ => exact Fin.ext (Nat.lt_one_iff.mp (Fin.isLt _))

variable (ρ : Dev nD → PrngReg)

/-- THE RUN with its result: the result array, and the arguments unchanged. -/
theorem run_value : θ_run defs (onTc (τ := τ) (main (F := Ideal))) ⟨m, fun _ => 0, ρ⟩ (fun r =>
    (∀ c : Dev nD, r.2.mem ((c.tc : Thread nD τ).loc main_v16) = result m c)) :=
  (θ_run defs _ _).mono (fun _ h c => ((h.1 c).2 main_v16 (Pipeline.mem_restRefs_of main_v16 (by decide) (by decide))).trans (W_result m c))
    (run_main m ρ)

end Cert.MegaValue

end
-- ==== Proof.Value.Reference.lean ====
/-
  What the reference computes, element by element, at the extended reals: its convolutions, hidden rows, readout and scores are
  those of `Spec`, and its result array is named in these terms.
-/
module

public import proofs.«01_k».proof.Proof.Gen.ReferenceIdeal.Run
public import proofs.«01_k».proof.Proof.Value.Spec
public import Idealize.ShloMosaic.Lib.MatmulPlain
public import Idealize.ShloMosaic.Lib.StackMember
public import Idealize.ShloMosaic.Lib.ValueIdxCoords
public import Idealize.ShloMosaic.Lib.Pipeline.Value

@[expose] public section

noncomputable section

namespace Cert.RefValue

open Cert.ReferenceIdeal Cert.ReferenceIdeal.Gen Cert.ReferenceIdeal.Value Cert.Score
open Idealize.ShloMosaic Idealize.ShloMosaic.TcCoe Idealize.SL.Sem
open Idealize.ShloMosaic.ValueIdx

/-! ## The reference's stages as array functions -/

/-- The linear layer. -/
def refLin (x : FVec Ideal S1x10000x128 .f32) (W : FVec Ideal S128x128 .f32) (b : FVec Ideal S128 .f32) : FVec Ideal S1x10000x128 .f32 :=
  addf (Host.dotGeneral dot_S1x10000x128_S128x128_S1x10000x128_2_0_01_1_n_n none x W)
    (broadcastInDim S1x10000x128 ![0, 1, 2] bcast_S1x1x128_S1x10000x128_0_1_2 (broadcastInDim S1x1x128 ![2] bcast_S128_S1x1x128_2 b))

/-- The sum over neighbours. -/
def refAgg (A : FVec Ideal S1x10000x10000 .f32) (f : FVec Ideal S1x10000x128 .f32) : FVec Ideal S1x10000x128 .f32 :=
  Host.dotGeneral dot_S1x10000x10000_S1x10000x128_S1x10000x128_2_1_1_2_0_0 none A f

/-- The rectifier. -/
def refPrelu (a : FVec Ideal S_ .f32) (o : FVec Ideal S1x10000x128 .f32) : FVec Ideal S1x10000x128 .f32 :=
  select (cmpf .ogt o (broadcastInDim S1x10000x128 ![] bcast_S_S1x10000x128 (constant S_ .f32 0x00000000#32))) o
    (mulf (broadcastInDim S1x10000x128 ![] bcast_S_S1x10000x128 a) o)

/-- The convolution. -/
def refConv (A : FVec Ideal S1x10000x10000 .f32) (x : FVec Ideal S1x10000x128 .f32) (W : FVec Ideal S128x128 .f32)
    (b : FVec Ideal S128 .f32) (a : FVec Ideal S_ .f32) : FVec Ideal S1x10000x128 .f32 :=
  refPrelu a (refAgg A (refLin x W b))

/-- The hidden rows. -/
def refHid (A : FVec Ideal S1x10000x10000 .f32) (x y : FVec Ideal S1x10000x128 .f32) (W1 : FVec Ideal S128x128 .f32)
    (b1 : FVec Ideal S128 .f32) (a1 : FVec Ideal S_ .f32) (W2 : FVec Ideal S128x128 .f32) (b2 : FVec Ideal S128 .f32)
    (a2 : FVec Ideal S_ .f32) : FVec Ideal S1x10000x128 .f32 :=
  addf (refConv A x W1 b1 a1)
    (mulf (broadcastInDim S1x10000x128 ![] bcast_S_S1x10000x128 (constant S_ .f32 0x3F000000#32)) (refConv A y W2 b2 a2))

/-- The readout. -/
def refRead (h : FVec Ideal S1x10000x128 .f32) (msk : FVec Ideal S1x10000 .f32) : FVec Ideal S1x128 .f32 :=
  Host.divf (broadcastInDim S1x128 ![] bcast_S_S1x128 (constant S_ .f32 0x3F800000#32))
    (addf (broadcastInDim S1x128 ![] bcast_S_S1x128 (constant S_ .f32 0x3F800000#32))
      (Host.exp (Host.negf (Host.divf
        (Host.reduceAdd (mulf h (broadcastInDim S1x10000x128 ![0, 1, 2] bcast_S1x10000x1_S1x10000x128_0_1_2
          (broadcastInDim S1x10000x1 ![0, 1] bcast_S1x10000_S1x10000x1_0_1 msk))) (constant S_ .f32 0x00000000#32)
          reducesTo_S1x10000x128_S1x128_d1 h_S_)
        (broadcastInDim S1x128 ![] bcast_S_S1x128
          (Host.reduceAdd msk (constant S_ .f32 0x00000000#32) reducesTo_S1x10000_S_d0_1 h_S_))))))

/-- The readout through the bilinear weights. -/
def refWeigh (r : FVec Ideal S1x128 .f32) (Wd : FVec Ideal S128x128 .f32) : FVec Ideal S1x128 .f32 :=
  Host.dotGeneral dot_S1x128_S128x128_S1x128_1_1_0_0_n_n none r Wd

/-- A score row: the nodes' scores plus the bias plus the sampled bias. -/
def refScore (h : FVec Ideal S1x10000x128 .f32) (v : FVec Ideal S1x128 .f32) (bd : FVec Ideal S1 .f32) (sb : FVec Ideal S1x10000 .f32) :
    FVec Ideal S1x10000 .f32 :=
  addf (addf (Host.dotGeneral dot_S1x10000x128_S1x128_S1x10000_2_1_1_n_0_0 none h v)
    (broadcastInDim S1x10000 ![] bcast_S_S1x10000 (shapeCast _ bd shapeCasts_S1_S_))) sb

/-! ## Each stage at an index -/

/-- The reference's product of a stack by a matrix. -/
theorem dotW_apply (x : FVec Ideal S1x10000x128 .f32) (W : FVec Ideal S128x128 .f32) (n : Fin 10000) (j : Fin 128) :
    Host.dotGeneral dot_S1x10000x128_S128x128_S1x10000x128_2_0_01_1_n_n none x W (ix3 0 n j)
      = ∑ k : Fin 128, x (ix3 0 n k) * W (ix2 k j) := by
  show FloatOps.dotGeneral _ none _ x W (ix3 0 n j) = _
  rw [Ideal.dotGeneral_apply, ← Equiv.sum_comp (contrEquiv1 dot_S1x10000x128_S128x128_S1x10000x128_2_0_01_1_n_n 128 rfl rfl).symm]
  refine Finset.sum_congr rfl fun k _ => ?_
  have e := contrEquiv1_symm_val dot_S1x10000x128_S128x128_S1x10000x128_2_0_01_1_n_n 128 rfl rfl k
  have l : dot_S1x10000x128_S128x128_S1x10000x128_2_0_01_1_n_n.lhsIdx (ix3 0 n j)
      ((contrEquiv1 dot_S1x10000x128_S128x128_S1x10000x128_2_0_01_1_n_n 128 rfl rfl).symm k) = ix3 0 n k := by
    funext ax; apply Fin.ext
    match ax with
    | ⟨0, _⟩ => rfl
    | ⟨1, _⟩ => rfl
    | ⟨2, _⟩ => exact e
  have r : dot_S1x10000x128_S128x128_S1x10000x128_2_0_01_1_n_n.rhsIdx (ix3 0 n j)
      ((contrEquiv1 dot_S1x10000x128_S128x128_S1x10000x128_2_0_01_1_n_n 128 rfl rfl).symm k) = ix2 k j := by
    funext ax; apply Fin.ext
    match ax with
    | ⟨0, _⟩ => exact e
    | ⟨1, _⟩ => rfl
  rw [l, r]

/-- The reference's product of the readout by the transposed weights. -/
theorem dotT_apply (x : FVec Ideal S1x128 .f32) (W : FVec Ideal S128x128 .f32) (f : Fin 128) :
    Host.dotGeneral dot_S1x128_S128x128_S1x128_1_1_0_0_n_n none x W (ix2 0 f) = ∑ g : Fin 128, x (ix2 0 g) * W (ix2 f g) := by
  show FloatOps.dotGeneral _ none _ x W (ix2 0 f) = _
  rw [Ideal.dotGeneral_apply, ← Equiv.sum_comp (contrEquiv1 dot_S1x128_S128x128_S1x128_1_1_0_0_n_n 128 rfl rfl).symm]
  refine Finset.sum_congr rfl fun k _ => ?_
  have e := contrEquiv1_symm_val dot_S1x128_S128x128_S1x128_1_1_0_0_n_n 128 rfl rfl k
  have l : dot_S1x128_S128x128_S1x128_1_1_0_0_n_n.lhsIdx (ix2 0 f)
      ((contrEquiv1 dot_S1x128_S128x128_S1x128_1_1_0_0_n_n 128 rfl rfl).symm k) = ix2 0 k := by
    funext ax; apply Fin.ext
    match ax with
    | ⟨0, _⟩ => rfl
    | ⟨1, _⟩ => exact e
  have r : dot_S1x128_S128x128_S1x128_1_1_0_0_n_n.rhsIdx (ix2 0 f)
      ((contrEquiv1 dot_S1x128_S128x128_S1x128_1_1_0_0_n_n 128 rfl rfl).symm k) = ix2 f k := by
    funext ax; apply Fin.ext
    match ax with
    | ⟨0, _⟩ => rfl
    | ⟨1, _⟩ => exact e
  rw [l, r]

/-- The reference's product of the hidden rows by the weighed readout. -/
theorem dotS_apply (h : FVec Ideal S1x10000x128 .f32) (v : FVec Ideal S1x128 .f32) (n : Fin 10000) :
    Host.dotGeneral dot_S1x10000x128_S1x128_S1x10000_2_1_1_n_0_0 none h v (ix2 0 n) = ∑ f : Fin 128, h (ix3 0 n f) * v (ix2 0 f) := by
  show FloatOps.dotGeneral _ none _ h v (ix2 0 n) = _
  rw [Ideal.dotGeneral_apply, ← Equiv.sum_comp (contrEquiv1 dot_S1x10000x128_S1x128_S1x10000_2_1_1_n_0_0 128 rfl rfl).symm]
  refine Finset.sum_congr rfl fun k _ => ?_
  have e := contrEquiv1_symm_val dot_S1x10000x128_S1x128_S1x10000_2_1_1_n_0_0 128 rfl rfl k
  have l : dot_S1x10000x128_S1x128_S1x10000_2_1_1_n_0_0.lhsIdx (ix2 0 n)
      ((contrEquiv1 dot_S1x10000x128_S1x128_S1x10000_2_1_1_n_0_0 128 rfl rfl).symm k) = ix3 0 n k := by
    funext ax; apply Fin.ext
    match ax with
    | ⟨0, _⟩ => rfl
    | ⟨1, _⟩ => rfl
    | ⟨2, _⟩ => exact e
  have r : dot_S1x10000x128_S1x128_S1x10000_2_1_1_n_0_0.rhsIdx (ix2 0 n)
      ((contrEquiv1 dot_S1x10000x128_S1x128_S1x10000_2_1_1_n_0_0 128 rfl rfl).symm k) = ix2 0 k := by
    funext ax; apply Fin.ext
    match ax with
    | ⟨0, _⟩ => rfl
    | ⟨1, _⟩ => exact e
  rw [l, r]

/-- The linear layer at an index. -/
theorem refLin_apply (x : FVec Ideal S1x10000x128 .f32) (W : FVec Ideal S128x128 .f32) (b : FVec Ideal S128 .f32) (n : Fin 10000)
    (j : Fin 128) : refLin x W b (ix3 0 n j) = lin (mat x) (fn2 W) (vec b) n j := by
  unfold refLin lin
  rw [addf_apply, dotW_apply, broadcastInDim_apply _ _ _ _ (ix3 0 0 j), broadcastInDim_apply _ _ _ _ (ix1 j)]
  · rfl
  · intro a
    match a with
    | ⟨0, _⟩ => rfl
  · intro a
    match a with
    | ⟨0, _⟩ => rfl
    | ⟨1, _⟩ => rfl
    | ⟨2, _⟩ => rfl

/-- The sum over neighbours at an index. -/
theorem refAgg_apply (A : FVec Ideal S1x10000x10000 .f32) (f : FVec Ideal S1x10000x128 .f32) (n : Fin 10000) (j : Fin 128) :
    refAgg A f (ix3 0 n j) = agg (mat A) (mat f) n j :=
  StackMember.dotGeneral_stack_apply _ none A f 0 n j

/-- The rectifier at an index. -/
theorem refPrelu_apply (a : FVec Ideal S_ .f32) (o : FVec Ideal S1x10000x128 .f32) (i : S1x10000x128.Idx) :
    refPrelu a o i = prelu (a ix0) (o i) := by
  unfold refPrelu prelu
  rw [select_apply, cmpf_apply, mulf_apply, broadcastInDim_scalar_apply, broadcastInDim_scalar_apply, constant_apply]

/-- The convolution at an index. -/
theorem refConv_apply (A : FVec Ideal S1x10000x10000 .f32) (x : FVec Ideal S1x10000x128 .f32) (W : FVec Ideal S128x128 .f32)
    (b : FVec Ideal S128 .f32) (a : FVec Ideal S_ .f32) (n : Fin 10000) (j : Fin 128) :
    refConv A x W b a (ix3 0 n j) = conv (mat A) (mat x) (fn2 W) (vec b) (a ix0) n j := by
  unfold refConv conv
  rw [refPrelu_apply, refAgg_apply]
  exact congrArg (prelu (a ix0)) (Finset.sum_congr rfl fun k _ => congrArg (fun z : EReal => A (ix3 0 n k) * z) (refLin_apply x W b k j))

/-- The hidden rows at an index. -/
theorem refHid_apply (A : FVec Ideal S1x10000x10000 .f32) (x y : FVec Ideal S1x10000x128 .f32) (W1 : FVec Ideal S128x128 .f32)
    (b1 : FVec Ideal S128 .f32) (a1 : FVec Ideal S_ .f32) (W2 : FVec Ideal S128x128 .f32) (b2 : FVec Ideal S128 .f32)
    (a2 : FVec Ideal S_ .f32) (n : Fin 10000) (j : Fin 128) :
    refHid A x y W1 b1 a1 W2 b2 a2 (ix3 0 n j)
      = Score.hidden (mat A) (mat x) (mat y) (fn2 W1) (vec b1) (a1 ix0) (fn2 W2) (vec b2) (a2 ix0) n j := by
  unfold refHid Score.hidden
  rw [addf_apply, mulf_apply, refConv_apply, refConv_apply, broadcastInDim_scalar_apply, constant_apply]

/-- The masked column sum: over the nodes, the mask times the hidden row. -/
theorem colsum_apply (h : FVec Ideal S1x10000x128 .f32) (msk : FVec Ideal S1x10000 .f32) (g : Fin 128) :
    Host.reduceAdd (mulf h (broadcastInDim S1x10000x128 ![0, 1, 2] bcast_S1x10000x1_S1x10000x128_0_1_2
      (broadcastInDim S1x10000x1 ![0, 1] bcast_S1x10000_S1x10000x1_0_1 msk))) (constant S_ .f32 0x00000000#32)
      reducesTo_S1x10000x128_S1x128_d1 h_S_ (ix2 0 g) = ∑ n, row msk n * mat h n g := by
  have hr : S1x10000x128.Reduces [1] S1x128 := ⟨reducesTo_S1x10000x128_S1x128_d1.1, Nat.two_pos, reducesTo_S1x10000x128_S1x128_d1.2⟩
  rw [hostReduceAdd_apply, Ideal.hostReduceAdd_single _ hr, constant_apply, Ideal.ofBits_zero_f32, zero_add]
  refine Finset.sum_congr rfl fun (n : Fin 10000) _ => ?_
  have el : hr.lift (ix2 0 g) n = (ix3 0 n g : (⟨3, ![1, 10000, 128]⟩ : Shape).Idx) := by
    funext ax; apply Fin.ext
    match ax with
    | ⟨0, _⟩ => rfl
    | ⟨1, _⟩ => rfl
    | ⟨2, _⟩ => rfl
  rw [el, mulf_apply, mul_comm, broadcastInDim_apply _ _ _ _ (ix3 0 n 0), broadcastInDim_apply _ _ _ _ (ix2 0 n)]
  · rfl
  · intro a
    match a with
    | ⟨0, _⟩ => rfl
    | ⟨1, _⟩ => rfl
  · intro a
    match a with
    | ⟨0, _⟩ => rfl
    | ⟨1, _⟩ => rfl
    | ⟨2, _⟩ => rfl

/-- The mask's total. -/
theorem total_apply (msk : FVec Ideal S1x10000 .f32) (j : S_.Idx) :
    Host.reduceAdd msk (constant S_ .f32 0x00000000#32) reducesTo_S1x10000_S_d0_1 h_S_ j = ∑ n, row msk n := by
  rw [hostReduceAdd_apply, Ideal.hostReduceAdd_total _ (fun b => b.elim0), constant_apply, Ideal.ofBits_zero_f32, zero_add, sum_idx2]
  exact Fin.sum_univ_one _

/-- One over one plus the exponential of the negation is the logistic function. -/
theorem logistic_at (x : FVec Ideal S1x128 .f32) (i : S1x128.Idx) :
    Host.divf (broadcastInDim S1x128 ![] bcast_S_S1x128 (constant S_ .f32 0x3F800000#32))
      (addf (broadcastInDim S1x128 ![] bcast_S_S1x128 (constant S_ .f32 0x3F800000#32)) (Host.exp (Host.negf x))) i
      = Ideal.logistic (x i) := by
  rw [hostDivf_apply, addf_apply, broadcastInDim_scalar_apply, constant_apply, Ideal.ofBits_one_f32]
  rfl

/-- The readout at an index. -/
theorem refRead_apply (h : FVec Ideal S1x10000x128 .f32) (msk : FVec Ideal S1x10000 .f32) (g : Fin 128) :
    refRead h msk (ix2 0 g) = readout (row msk) (mat h) g := by
  unfold refRead readout
  rw [logistic_at, hostDivf_apply, colsum_apply, broadcastInDim_scalar_apply, total_apply]

/-- A score row at an index. -/
theorem refScore_apply (h : FVec Ideal S1x10000x128 .f32) (r : FVec Ideal S1x128 .f32) (Wd : FVec Ideal S128x128 .f32)
    (bd : FVec Ideal S1 .f32) (sb : FVec Ideal S1x10000 .f32) (n : Fin 10000) :
    refScore h (refWeigh r Wd) bd sb (ix2 0 n)
      = score (mat h) (weigh (fn2 Wd) (row r)) n + bd (ix1 0) + sb (ix2 0 n) := by
  unfold refScore
  rw [addf_apply, addf_apply, dotS_apply, broadcastInDim_scalar_apply]
  refine congrArg₂ (fun y z : EReal => y + z + sb (ix2 0 n)) ?_ ?_
  · refine Finset.sum_congr rfl fun f _ => ?_
    rw [mul_comm]
    exact congrArg (fun z : EReal => z * h (ix3 0 n f)) (dotT_apply r Wd f)
  · unfold shapeCast
    exact congrArg bd (eq_ix1_u0 _)

/-! ## The result -/

variable (m : (ℓ : Loc nD τ sig) → Buf (Elt Ideal) ℓ) (c : Dev nD)

/-- The first hidden array of the reference, -/
def refH1 : FVec Ideal S1x10000x128 .f32 :=
  refHid (m ((c.tc : Thread nD τ).loc main_arg2)) (m ((c.tc : Thread nD τ).loc main_arg0)) (m ((c.tc : Thread nD τ).loc main_arg1))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))

/-- and the second: the sequences exchanged. -/
def refH2 : FVec Ideal S1x10000x128 .f32 :=
  refHid (m ((c.tc : Thread nD τ).loc main_arg2)) (m ((c.tc : Thread nD τ).loc main_arg1)) (m ((c.tc : Thread nD τ).loc main_arg0))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))

/-- The weighed readout. -/
def refV : FVec Ideal S1x128 .f32 :=
  refWeigh (refRead (refH1 m c) (m ((c.tc : Thread nD τ).loc main_arg5))) (m ((c.tc : Thread nD τ).loc main_arg14))

/-- The result array is the two score rows side by side. -/
theorem res_eq : res_main_v71 m c
    = concatenate S1x20000 1
        [⟨S1x10000, refScore (refH1 m c) (refV m c) (m ((c.tc : Thread nD τ).loc main_arg15)) (m ((c.tc : Thread nD τ).loc main_arg6))⟩,
         ⟨S1x10000, refScore (refH2 m c) (refV m c) (m ((c.tc : Thread nD τ).loc main_arg15)) (m ((c.tc : Thread nD τ).loc main_arg7))⟩]
        concatenates_S1x10000_S1x10000_S1x20000_d1 := by
  unfold res_main_v71 refScore refV refWeigh refRead refH1 refH2 refHid refConv refPrelu refAgg refLin
  rfl

end Cert.RefValue

end
-- ==== Proof.Value.Equation.lean ====
/-
  The equation: at equal arguments the kernel's result array is the reference's.
-/
module

public import proofs.«01_k».proof.Proof.Value.Tail
public import proofs.«01_k».proof.Proof.Value.Reference

@[expose] public section

noncomputable section

namespace Cert.Equation

open Cert.Score Cert.MegaValue Cert.RefValue Cert.MegaIdeal
open Idealize.ShloMosaic Idealize.ShloMosaic.TcCoe Idealize.SL.Sem
open Idealize.ShloMosaic.ValueIdx

/-- The reference adds the bias before the sampled bias and the kernel after it: a score row of the kernel whose scores are the
    reference's is the reference's row. -/
theorem row_eq (o sb : FVec Ideal Cert.KernelIdeal.S1x10000 .f32) (bd : FVec Ideal Cert.KernelIdeal.S1 .f32)
    (h : FVec Ideal Cert.ReferenceIdeal.S1x10000x128 .f32) (r : FVec Ideal Cert.ReferenceIdeal.S1x128 .f32)
    (Wd : FVec Ideal Cert.ReferenceIdeal.S128x128 .f32)
    (ho : ∀ n, o (ix2 0 n) = score (mat h) (weigh (fn2 Wd) (row r)) n) :
    biased o sb bd = refScore h (refWeigh r Wd) bd sb := by
  funext i
  obtain ⟨n, rfl⟩ : ∃ n : Fin 10000, i = ix2 0 n := by
    refine ⟨i 1, ?_⟩
    funext a
    match a with
    | ⟨0, _⟩ => exact Fin.ext (Nat.lt_one_iff.mp (Fin.isLt _))
    | ⟨1, _⟩ => rfl
  refine (biased_apply o sb bd n).trans (Eq.trans ?_ (refScore_apply h r Wd bd sb n).symm)
  rw [ho, add_right_comm]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- At equal arguments the two result arrays are equal. -/
theorem result_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    result m c = Cert.ReferenceIdeal.Value.res_main_v71 m' c := by
  have e1 : mat (refH1 m' c) = specH1 m c := by
    unfold refH1
    rw [h0, h1, h2, h8, h9, h10, h11, h12, h13]
    funext n j
    exact refHid_apply _ _ _ _ _ _ _ _ _ n j
  have e2 : mat (refH2 m' c) = specH2 m c := by
    unfold refH2
    rw [h0, h1, h2, h8, h9, h10, h11, h12, h13]
    funext n j
    exact refHid_apply _ _ _ _ _ _ _ _ _ n j
  have ev : weigh (fn2 (m' ((c.tc : Thread Cert.ReferenceIdeal.nD Cert.ReferenceIdeal.τ).loc Cert.ReferenceIdeal.main_arg14)))
      (row (refRead (refH1 m' c) (m' ((c.tc : Thread Cert.ReferenceIdeal.nD Cert.ReferenceIdeal.τ).loc Cert.ReferenceIdeal.main_arg5))))
      = specV m c := by
    have er : row (refRead (refH1 m' c) (m' ((c.tc : Thread Cert.ReferenceIdeal.nD Cert.ReferenceIdeal.τ).loc Cert.ReferenceIdeal.main_arg5)))
        = readout (row (m ((c.tc : Thread Cert.KernelIdeal.nD Cert.KernelIdeal.τ).loc Cert.KernelIdeal.main_arg5))) (specH1 m c) := by
      funext g
      refine (refRead_apply _ _ g).trans ?_
      rw [e1, h5]
    rw [er, h14]
    rfl
  rw [res_eq]
  unfold result refV
  refine congrArg₂ (fun a b => concatenate Cert.KernelIdeal.S1x20000 1 [⟨Cert.KernelIdeal.S1x10000, a⟩, ⟨Cert.KernelIdeal.S1x10000, b⟩]
    Cert.KernelIdeal.Gen.concatenates_S1x10000_S1x10000_S1x20000_d1) ?_ ?_
  · rw [h15, h6]
    refine row_eq _ _ _ _ _ _ fun n => (score1_eq m c ptLast n).trans ?_
    rw [e1, ev]
  · rw [h15, h7]
    refine row_eq _ _ _ _ _ _ fun n => (score2_eq m c ptLast n).trans ?_
    rw [e2, ev]

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Words.Run
public import proofs.«01_k».proof.Proof.Value.Equation
public import Idealize.ShloMosaic.Adequacy
public import Idealize.ShloMosaic.Init

@[expose] public section

noncomputable section

namespace Cert.Proof

open Idealize.ShloMosaic Idealize.SL.Sem

/-- The kernel at words runs, leaves its arguments unchanged and every semaphore at zero. -/
theorem quiescent_words : @Cert.quiescent_Kernel Cert.Kernel.Gen.facts := fun m ρ _ => Cert.MegaWords.frame m ρ

/-- The kernel at the extended reals does too. -/
theorem quiescent_ideal : @Cert.quiescent_KernelIdeal Cert.KernelIdeal.Gen.facts := fun m ρ _ => Cert.MegaIdeal.frame m ρ

/-- So does the reference, which names no semaphore. -/
theorem quiescent_reference : @Cert.quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments the kernel and the reference, at the extended reals, end with equal result arrays. -/
theorem algebraic : @Cert.algebraic_KernelIdeal_ReferenceIdeal Cert.KernelIdeal.Gen.facts Cert.ReferenceIdeal.Gen.facts := by
  intro m g m' g' _ hag
  refine ⟨fun c => Cert.MegaValue.result m c, ?_, ?_⟩
  · exact (θ_run Cert.KernelIdeal.defs _ _).mono (fun r h c => ⟨h.1 c, h.2.1 c⟩)
      (θ_run_and (Cert.MegaValue.run_value m g) (Cert.MegaIdeal.frame m g))
  · refine (θ_run Cert.ReferenceIdeal.defs _ _).mono (fun r h c => ⟨(h c).1.trans ?_, (h c).2⟩)
      (Cert.ReferenceIdeal.Value.run (F := Ideal) m' g')
    obtain ⟨h0, h1, h2, _, _, h5, h6, h7, h8, h9, h10, h11, h12, h13, h14, h15⟩ := hag c
    exact (Cert.Equation.result_eq m m' c h0 h1 h2 h5 h6 h7 h8 h9 h10 h11 h12 h13 h14 h15).symm

/-- The five claims. -/
theorem claim : Cert.Claim :=
  ⟨Cert.Kernel.Gen.facts, Cert.KernelIdeal.Gen.facts, Cert.ReferenceIdeal.Gen.facts, quiescent_words, quiescent_ideal,
    quiescent_reference, trivial, algebraic⟩

end Cert.Proof

end
